-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S8x84x128x128 : Shape := ⟨4, ![8, 84, 128, 128]⟩
abbrev S8x80x128x128 : Shape := ⟨4, ![8, 80, 128, 128]⟩
abbrev S_ : Shape := ⟨0, ![]⟩
abbrev S8x1310720 : Shape := ⟨2, ![8, 1310720]⟩
abbrev S8x125 : Shape := ⟨2, ![8, 125]⟩
abbrev S8x1 : Shape := ⟨2, ![8, 1]⟩
abbrev S8 : Shape := ⟨1, ![8]⟩
abbrev S8x1x1x1 : Shape := ⟨4, ![8, 1, 1, 1]⟩
abbrev S8x80x128 : Shape := ⟨3, ![8, 80, 128]⟩
abbrev S8x1x1 : Shape := ⟨3, ![8, 1, 1]⟩

class Facts : Prop where
  slices_S8x84x128x128_S8x80x128x128_0_0_0_0 : S8x84x128x128.Slices ![0, 0, 0, 0] S8x80x128x128
  bcast_S_S8x80x128x128 : S_.BroadcastsInDim S8x80x128x128 (![] : Fin 0 → Fin S8x80x128x128.rank)
  bcast_S_S_ : S_.BroadcastsInDim S_ (![] : Fin 0 → Fin S_.rank)
  reduceWindows_S8x80x128x128_S8x80x128x128_w1s1p0_0_w1s1p0_0_w3s1p1_1_w3s1p1_1 : S8x80x128x128.ReduceWindows (![1, 1, 3, 3] : Fin 4 → Nat) ![1, 1, 1, 1] ![0, 0, 1, 1] ![0, 0, 1, 1] S8x80x128x128
  h_S_ : 0 < S_.numel
  shapeCasts_S8x80x128x128_S8x1310720 : S8x80x128x128.ShapeCasts S8x1310720
  sliceFits_S8x1310720_S8x125 : S8x1310720.Slices (fun _ => 0) S8x125
  slices_S8x125_S8x1_0_99 : S8x125.Slices ![0, 99] S8x1
  shapeCasts_S8x1_S8 : S8x1.ShapeCasts S8
  slices_S8x125_S8x1_0_124 : S8x125.Slices ![0, 124] S8x1
  bcast_S_S8 : S_.BroadcastsInDim S8 (![] : Fin 0 → Fin S8.rank)
  bcast_S8_S8x1x1x1_0 : S8.BroadcastsInDim S8x1x1x1 (![0] : Fin 1 → Fin S8x1x1x1.rank)
  bcast_S8x1x1x1_S8x80x128x128_0_1_2_3 : S8x1x1x1.BroadcastsInDim S8x80x128x128 (![0, 1, 2, 3] : Fin 4 → Fin S8x80x128x128.rank)
  reducesTo_S8x80x128x128_S8x80x128_d3 : S8x80x128x128.ReducesTo [3] S8x80x128
  bcast_S8_S8x1x1_0 : S8.BroadcastsInDim S8x1x1 (![0] : Fin 1 → Fin S8x1x1.rank)
  bcast_S_S8x80x128 : S_.BroadcastsInDim S8x80x128 (![] : Fin 0 → Fin S8x80x128.rank)
  bcast_S8x1x1_S8x80x128_0_1_2 : S8x1x1.BroadcastsInDim S8x80x128 (![0, 1, 2] : Fin 3 → Fin S8x80x128.rank)

variable [Facts]

def fn_part1 {F : FTy → Type} [FloatOps F] (main_v11 : FVec F S8x80x128x128 .f32) (main_v14 : FVec F S8 .f32) (main_v16 : FVec F S8 .f32) (main_v17 : FVec F S8 .f32) : IVec S8x80x128 1 :=
  let main_v18 : IVec S8 1 := cmpf .ole main_v16 main_v17
  let main_v19 : FVec F S8 .f32 := subf main_v14 main_v16
  let main_cst_3 : FVec F S_ .f32 := constant S_ .f32 0x2E800000#32
  let main_v20 : FVec F S8 .f32 := broadcastInDim S8 ![] bcast_S_S8 main_cst_3
  let main_v21 : IVec S8 1 := cmpf .oge main_v19 main_v20
  let main_v22 : IVec S8 1 := ori main_v18 main_v21
  let main_cst_4 : FVec F S_ .f32 := constant S_ .f32 0x3DCCCCCD#32
  let main_v23 : FVec F S8 .f32 := broadcastInDim S8 ![] bcast_S_S8 main_cst_4
  let main_v24 : FVec F S8 .f32 := maximumf main_v16 main_v23
  let main_v25 : FVec F S8x1x1x1 .f32 := broadcastInDim S8x1x1x1 ![0] bcast_S8_S8x1x1x1_0 main_v24
  let main_v26 : FVec F S8x80x128x128 .f32 := broadcastInDim S8x80x128x128 ![0, 1, 2, 3] bcast_S8x1x1x1_S8x80x128x128_0_1_2_3 main_v25
  let main_v27 : IVec S8x80x128x128 1 := cmpf .ogt main_v11 main_v26
  let main_v28 : FVec F S8x80x128x128 .f32 := uitofp .f32 main_v27
  let main_cst_5 : FVec F S_ .f32 := constant S_ .f32 0x00000000#32
  let main_v29 : FVec F S8x80x128 .f32 := (fun x v => Host.reduceAdd x v reducesTo_S8x80x128x128_S8x80x128_d3 h_S_) main_v28 main_cst_5
  let main_v30 : IVec S8x1x1 1 := broadcastInDim S8x1x1 ![0] bcast_S8_S8x1x1_0 main_v22
  let main_cst_6 : FVec F S_ .f32 := constant S_ .f32 0x40800000#32
  let main_v31 : FVec F S8x80x128 .f32 := broadcastInDim S8x80x128 ![] bcast_S_S8x80x128 main_cst_6
  let main_v32 : IVec S8x80x128 1 := cmpf .ole main_v29 main_v31
  let main_v33 : IVec S8x80x128 1 := broadcastInDim S8x80x128 ![0, 1, 2] bcast_S8x1x1_S8x80x128_0_1_2 main_v30
  let main_v34 : IVec S8x80x128 1 := andi main_v33 main_v32
  main_v34

def fn {F : FTy → Type} [FloatOps F] (main_arg0 : FVec F S8x84x128x128 .f32) : IVec S8x80x128 1 :=
  let main_v0 : FVec F S8x80x128x128 .f32 := (extractStridedSlice S8x80x128x128 ![0, 0, 0, 0] · slices_S8x84x128x128_S8x80x128x128_0_0_0_0) main_arg0
  let main_v1 : FVec F S8x80x128x128 .f32 := Host.negf main_v0
  let main_v2 : FVec F S8x80x128x128 .f32 := Host.exp main_v1
  let main_cst : FVec F S_ .f32 := constant S_ .f32 0x3F800000#32
  let main_v3 : FVec F S8x80x128x128 .f32 := broadcastInDim S8x80x128x128 ![] bcast_S_S8x80x128x128 main_cst
  let main_v4 : FVec F S8x80x128x128 .f32 := addf main_v3 main_v2
  let main_cst_0 : FVec F S_ .f32 := constant S_ .f32 0x3F800000#32
  let main_v5 : FVec F S8x80x128x128 .f32 := broadcastInDim S8x80x128x128 ![] bcast_S_S8x80x128x128 main_cst_0
  let main_v6 : FVec F S8x80x128x128 .f32 := Host.divf main_v5 main_v4
  let main_cst_1 : FVec F S_ .f32 := constant S_ .f32 0xFF800000#32
  let main_v7 : FVec F S_ .f32 := broadcastInDim S_ ![] bcast_S_S_ main_cst_1
  let main_v8 : FVec F S8x80x128x128 .f32 := (fun x v => Host.reduceWindow FloatOps.maximumf ![1, 1, 3, 3] ![1, 1, 1, 1] ![0, 0, 1, 1] ![0, 0, 1, 1] x v reduceWindows_S8x80x128x128_S8x80x128x128_w1s1p0_0_w1s1p0_0_w3s1p1_1_w3s1p1_1 h_S_) main_v6 main_v7
  let main_v9 : IVec S8x80x128x128 1 := cmpf .oeq main_v6 main_v8
  let main_v10 : FVec F S8x80x128x128 .f32 := uitofp .f32 main_v9
  let main_v11 : FVec F S8x80x128x128 .f32 := mulf main_v6 main_v10
  let main_v12 : FVec F S8x1310720 .f32 := shapeCast S8x1310720 main_v11 shapeCasts_S8x80x128x128_S8x1310720
  let main_values : FVec F S8x125 .f32 := (fun x => (Host.topK S8x125 1 (FloatOps.cmpfTotal .gt) x sliceFits_S8x1310720_S8x125).1) main_v12
  let main_indices : IVec S8x125 32 := (fun x => (Host.topK S8x125 1 (FloatOps.cmpfTotal .gt) x sliceFits_S8x1310720_S8x125).2) main_v12
  let main_v13 : FVec F S8x1 .f32 := (extractStridedSlice S8x1 ![0, 99] · slices_S8x125_S8x1_0_99) main_values
  let main_v14 : FVec F S8 .f32 := shapeCast S8 main_v13 shapeCasts_S8x1_S8
  let main_v15 : FVec F S8x1 .f32 := (extractStridedSlice S8x1 ![0, 124] · slices_S8x125_S8x1_0_124) main_values
  let main_v16 : FVec F S8 .f32 := shapeCast S8 main_v15 shapeCasts_S8x1_S8
  let main_cst_2 : FVec F S_ .f32 := constant S_ .f32 0x3DCCCCCD#32
  let main_v17 : FVec F S8 .f32 := broadcastInDim S8 ![] bcast_S_S8 main_cst_2
  fn_part1 (F := F) main_v11 main_v14 main_v16 main_v17
-- ==== Kernel.lean ====
abbrev S8x84x128x128 : Shape := ⟨4, ![8, 84, 128, 128]⟩
abbrev S8x6x128 : Shape := ⟨3, ![8, 6, 128]⟩
abbrev S1x84x128x128 : Shape := ⟨4, ![1, 84, 128, 128]⟩
abbrev S1x6x128 : Shape := ⟨3, ![1, 6, 128]⟩
abbrev S84x128x128 : Shape := ⟨3, ![84, 128, 128]⟩
abbrev S80x128x128 : Shape := ⟨3, ![80, 128, 128]⟩
abbrev S80x128x1 : Shape := ⟨3, ![80, 128, 1]⟩
abbrev S80x128x127 : Shape := ⟨3, ![80, 128, 127]⟩
abbrev S80x1x128 : Shape := ⟨3, ![80, 1, 128]⟩
abbrev S80x127x128 : Shape := ⟨3, ![80, 127, 128]⟩
abbrev S10240x128 : Shape := ⟨2, ![10240, 128]⟩
abbrev S80x128 : Shape := ⟨2, ![80, 128]⟩
abbrev S1x80x128 : Shape := ⟨3, ![1, 80, 128]⟩
abbrev S1 : Shape := ⟨1, ![1]⟩
abbrev S1x1x1 : Shape := ⟨3, ![1, 1, 1]⟩
abbrev S1x10240x128 : Shape := ⟨3, ![1, 10240, 128]⟩
abbrev S128x128 : Shape := ⟨2, ![128, 128]⟩
abbrev S80 : Shape := ⟨1, ![80]⟩
abbrev S80x1 : Shape := ⟨2, ![80, 1]⟩
abbrev S1x1 : Shape := ⟨2, ![1, 1]⟩
abbrev S79x1 : Shape := ⟨2, ![79, 1]⟩
abbrev S2x1 : Shape := ⟨2, ![2, 1]⟩
abbrev S78x1 : Shape := ⟨2, ![78, 1]⟩
abbrev S4x1 : Shape := ⟨2, ![4, 1]⟩
abbrev S76x1 : Shape := ⟨2, ![76, 1]⟩
abbrev S8x1 : Shape := ⟨2, ![8, 1]⟩
abbrev S72x1 : Shape := ⟨2, ![72, 1]⟩
abbrev S16x1 : Shape := ⟨2, ![16, 1]⟩
abbrev S64x1 : Shape := ⟨2, ![64, 1]⟩
abbrev S32x1 : Shape := ⟨2, ![32, 1]⟩
abbrev S48x1 : Shape := ⟨2, ![48, 1]⟩
abbrev S1x128 : Shape := ⟨2, ![1, 128]⟩
abbrev S128 : Shape := ⟨1, ![128]⟩
abbrev S128x1 : Shape := ⟨2, ![128, 1]⟩
abbrev S1x128x128 : Shape := ⟨3, ![1, 128, 128]⟩
abbrev S6x128 : Shape := ⟨2, ![6, 128]⟩
abbrev S8x128x6 : Shape := ⟨3, ![8, 128, 6]⟩
abbrev S8x100x6 : Shape := ⟨3, ![8, 100, 6]⟩

abbrev nBuf : Space → Nat
  | .hbm => 4
  | .vmem => 4
  | .smem => 0
  | _ => 0

abbrev bufTy : (tb : Table) → Fin (tcTables nBuf tb) → BufTy
  | .hbm, ⟨0, _⟩ => ⟨S8x84x128x128, .f32⟩
  | .hbm, ⟨1, _⟩ => ⟨S8x6x128, .f32⟩
  | .hbm, ⟨2, _⟩ => ⟨S8x128x6, .f32⟩
  | .hbm, ⟨3, _⟩ => ⟨S8x100x6, .f32⟩
  | .local _ .vmem, ⟨0, _⟩ => ⟨S1x84x128x128, .f32⟩
  | .local _ .vmem, ⟨1, _⟩ => ⟨S1x84x128x128, .f32⟩
  | .local _ .vmem, ⟨2, _⟩ => ⟨S1x6x128, .f32⟩
  | .local _ .vmem, ⟨3, _⟩ => ⟨S1x6x128, .f32⟩
  | _, _ => ⟨S8x84x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c27_i32 : BitVec 32 := 27#32
  let v23 : BitVec 32 := Scalar.addi c0_i32 c27_i32
  let c1_i32 : BitVec 32 := 1#32
  ⟨c0_i32, v23, c1_i32⟩
@[reducible] def k0_t2_loop : Scf.Loop 32 :=
  let c0_i32_29 : BitVec 32 := 0#32
  let c4_i32 : BitVec 32 := 4#32
  let v104 : BitVec 32 := Scalar.addi c0_i32_29 c4_i32
  let c1_i32_30 : BitVec 32 := 1#32
  ⟨c0_i32_29, v104, c1_i32_30⟩
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x84x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x6x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S8x84x128x128 : Shape := ⟨4, ![8, 84, 128, 128]⟩
abbrev S8x80x128x128 : Shape := ⟨4, ![8, 80, 128, 128]⟩
abbrev S8x2x128x128 : Shape := ⟨4, ![8, 2, 128, 128]⟩
abbrev S_ : Shape := ⟨0, ![]⟩
abbrev S8x1310720 : Shape := ⟨2, ![8, 1310720]⟩
abbrev S8x100 : Shape := ⟨2, ![8, 100]⟩
abbrev S8x2x16384 : Shape := ⟨3, ![8, 2, 16384]⟩
abbrev S8x1x100 : Shape := ⟨3, ![8, 1, 100]⟩
abbrev S8x100x1 : Shape := ⟨3, ![8, 100, 1]⟩
abbrev S8x2x100 : Shape := ⟨3, ![8, 2, 100]⟩
abbrev S8x100x6 : Shape := ⟨3, ![8, 100, 6]⟩

abbrev nBuf : Space → Nat
  | .hbm => 82
  | .vmem => 0
  | .smem => 0
  | _ => 0

abbrev bufTy : (tb : Table) → Fin (tcTables nBuf tb) → BufTy
  | .hbm, ⟨0, _⟩ => ⟨S8x84x128x128, .f32⟩
  | .hbm, ⟨1, _⟩ => ⟨S8x80x128x128, .f32⟩
  | .hbm, ⟨2, _⟩ => ⟨S8x2x128x128, .f32⟩
  | .hbm, ⟨3, _⟩ => ⟨S8x2x128x128, .f32⟩
  | .hbm, ⟨4, _⟩ => ⟨S8x80x128x128, .f32⟩
  | .hbm, ⟨5, _⟩ => ⟨S8x80x128x128, .f32⟩
  | .hbm, ⟨6, _⟩ => ⟨S_, .f32⟩
  | .hbm, ⟨7, _⟩ => ⟨S8x80x128x128, .f32⟩
  | .hbm, ⟨8, _⟩ => ⟨S8x80x128x128, .f32⟩
  | .hbm, ⟨9, _⟩ => ⟨S_, .f32⟩
  | .hbm, ⟨10, _⟩ => ⟨S8x80x128x128, .f32⟩
  | .hbm, ⟨11, _⟩ => ⟨S8x80x128x128, .f32⟩
  | .hbm, ⟨12, _⟩ => ⟨S_, .f32⟩
  | .hbm, ⟨13, _⟩ => ⟨S_, .f32⟩
  | .hbm, ⟨14, _⟩ => ⟨S8x80x128x128, .f32⟩
  | .hbm, ⟨15, _⟩ => ⟨S8x80x128x128, .i1⟩
  | .hbm, ⟨16, _⟩ => ⟨S8x80x128x128, .f32⟩
  | .hbm, ⟨17, _⟩ => ⟨S8x80x128x128, .f32⟩
  | .hbm, ⟨18, _⟩ => ⟨S8x1310720, .f32⟩
  | .hbm, ⟨19, _⟩ => ⟨S8x100, .f32⟩
  | .hbm, ⟨20, _⟩ => ⟨S8x100, .i32⟩
  | .hbm, ⟨21, _⟩ => ⟨S_, .i32⟩
  | .hbm, ⟨22, _⟩ => ⟨S8x100, .i32⟩
  | .hbm, ⟨23, _⟩ => ⟨S8x100, .i32⟩
  | .hbm, ⟨24, _⟩ => ⟨S_, .i32⟩
  | .hbm, ⟨25, _⟩ => ⟨S8x100, .i32⟩
  | .hbm, ⟨26, _⟩ => ⟨S8x100, .i32⟩
  | .hbm, ⟨27, _⟩ => ⟨S_, .i32⟩
  | .hbm, ⟨28, _⟩ => ⟨S8x100, .i32⟩
  | .hbm, ⟨29, _⟩ => ⟨S8x100, .i32⟩
  | .hbm, ⟨30, _⟩ => ⟨S8x100, .f32⟩
  | .hbm, ⟨31, _⟩ => ⟨S_, .i32⟩
  | .hbm, ⟨32, _⟩ => ⟨S8x100, .i32⟩
  | .hbm, ⟨33, _⟩ => ⟨S8x100, .i32⟩
  | .hbm, ⟨34, _⟩ => ⟨S8x100, .f32⟩
  | .hbm, ⟨35, _⟩ => ⟨S8x2x16384, .f32⟩
  | .hbm, ⟨36, _⟩ => ⟨S8x2x16384, .f32⟩
  | .hbm, ⟨37, _⟩ => ⟨S8x1x100, .i32⟩
  | .hbm, ⟨38, _⟩ => ⟨S_, .i32⟩
  | .hbm, ⟨39, _⟩ => ⟨S8x1x100, .i32⟩
  | .hbm, ⟨40, _⟩ => ⟨S8x1x100, .i1⟩
  | .hbm, ⟨41, _⟩ => ⟨S_, .i32⟩
  | .hbm, ⟨42, _⟩ => ⟨S8x1x100, .i32⟩
  | .hbm, ⟨43, _⟩ => ⟨S8x1x100, .i32⟩
  | .hbm, ⟨44, _⟩ => ⟨S8x1x100, .i32⟩
  | .hbm, ⟨45, _⟩ => ⟨S8x100x1, .i32⟩
  | .hbm, ⟨46, _⟩ => ⟨S8x2x100, .f32⟩
  | .hbm, ⟨47, _⟩ => ⟨S8x1x100, .i32⟩
  | .hbm, ⟨48, _⟩ => ⟨S_, .i32⟩
  | .hbm, ⟨49, _⟩ => ⟨S8x1x100, .i32⟩
  | .hbm, ⟨50, _⟩ => ⟨S8x1x100, .i1⟩
  | .hbm, ⟨51, _⟩ => ⟨S_, .i32⟩
  | .hbm, ⟨52, _⟩ => ⟨S8x1x100, .i32⟩
  | .hbm, ⟨53, _⟩ => ⟨S8x1x100, .i32⟩
  | .hbm, ⟨54, _⟩ => ⟨S8x1x100, .i32⟩
  | .hbm, ⟨55, _⟩ => ⟨S8x100x1, .i32⟩
  | .hbm, ⟨56, _⟩ => ⟨S8x2x100, .f32⟩
  | .hbm, ⟨57, _⟩ => ⟨S8x1x100, .f32⟩
  | .hbm, ⟨58, _⟩ => ⟨S8x100, .f32⟩
  | .hbm, ⟨59, _⟩ => ⟨S8x100, .f32⟩
  | .hbm, ⟨60, _⟩ => ⟨S8x1x100, .f32⟩
  | .hbm, ⟨61, _⟩ => ⟨S8x100, .f32⟩
  | .hbm, ⟨62, _⟩ => ⟨S8x100, .f32⟩
  | .hbm, ⟨63, _⟩ => ⟨S8x1x100, .f32⟩
  | .hbm, ⟨64, _⟩ => ⟨S8x100, .f32⟩
  | .hbm, ⟨65, _⟩ => ⟨S8x1x100, .f32⟩
  | .hbm, ⟨66, _⟩ => ⟨S8x100, .f32⟩
  | .hbm, ⟨67, _⟩ => ⟨S_, .f32⟩
  | .hbm, ⟨68, _⟩ => ⟨S8x100, .f32⟩
  | .hbm, ⟨69, _⟩ => ⟨S8x100, .i1⟩
  | .hbm, ⟨70, _⟩ => ⟨S8x100, .f32⟩
  | .hbm, ⟨71, _⟩ => ⟨S8x100, .f32⟩
  | .hbm, ⟨72, _⟩ => ⟨S8x100x1, .f32⟩
  | .hbm, ⟨73, _⟩ => ⟨S8x100x1, .f32⟩
  | .hbm, ⟨74, _⟩ => ⟨S8x100x1, .f32⟩
  | .hbm, ⟨75, _⟩ => ⟨S8x100x1, .f32⟩
  | .hbm, ⟨76, _⟩ => ⟨S8x100x1, .f32⟩
  | .hbm, ⟨77, _⟩ => ⟨S8x100x1, .f32⟩
  | .hbm, ⟨78, _⟩ => ⟨S8x100x6, .f32⟩
  | .hbm, ⟨79, _⟩ => ⟨S8x100x1, .f32⟩
  | .hbm, ⟨80, _⟩ => ⟨S8x100x6, .f32⟩
  | .hbm, ⟨81, _⟩ => ⟨S8x100x6, .f32⟩
  | _, _ => ⟨S8x84x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_cst : Ref sig .tc := ⟨.hbm, 6, rfl⟩
abbrev main_v5 : Ref sig .tc := ⟨.hbm, 7, rfl⟩
abbrev main_v6 : Ref sig .tc := ⟨.hbm, 8, rfl⟩
abbrev main_cst_0 : Ref sig .tc := ⟨.hbm, 9, rfl⟩
abbrev main_v7 : Ref sig .tc := ⟨.hbm, 10, rfl⟩
abbrev main_v8 : Ref sig .tc := ⟨.hbm, 11, rfl⟩
abbrev main_cst_1 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_values : Ref sig .tc := ⟨.hbm, 19, rfl⟩
abbrev main_indices : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_c : Ref sig .tc := ⟨.hbm, 38, rfl⟩
abbrev main_call0_v0 : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_v5 : Ref sig .tc := ⟨.hbm, 45, rfl⟩
abbrev main_v28 : Ref sig .tc := ⟨.hbm, 46, rfl⟩
abbrev main_v29 : Ref sig .tc := ⟨.hbm, 47, rfl⟩
abbrev main_call1_c : Ref sig .tc := ⟨.hbm, 48, rfl⟩
abbrev main_call1_v0 : Ref sig .tc := ⟨.hbm, 49, rfl⟩
abbrev main_call1_v1 : Ref sig .tc := ⟨.hbm, 50, rfl⟩
abbrev main_call1_c_0 : Ref sig .tc := ⟨.hbm, 51, rfl⟩
abbrev main_call1_v2 : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩

abbrev nD : Nat := 1
abbrev τ : Topo := Topo.v7x

variable {F : FTy → Type} [FloatOps F]
-- ==== Proof.WordCounter.lean ====
module

public import proofs.«01_k».proof.Defs
public import proofs.«01_k».proof.Proof.WordBody
public import Idealize.ShloMosaic.Lib.NatWordsOrder

@[expose] public section

set_option maxRecDepth 16384

namespace Cert.Proof.K

open Idealize.ShloMosaic Cert.Kernel Cert.Kernel.Gen

/-- The word of the float one. -/
theorem one_word : Bits.f32OfNat 1 = (0x3F800000#32 : Bits .f32) := by
  rw [Bits.f32OfNat_eq 1 (by decide)]; decide

/-- The word of the float thirty-four. -/
theorem limit_word : Bits.f32OfNat 34 = (0x42080000#32 : Bits .f32) := by
  rw [Bits.f32OfNat_eq 34 (by decide)]; decide

/-- After `k` halvings the counter is the float `k`: adding one is exact there. -/
theorem counter_bits (k : ℕ) (hk : k < 100) : counter (F := Bits) k = Bits.f32OfNat k := by
  induction k with
  | zero => exact Bits.f32OfNat_zero.symm
  | succ k ih =>
    show Bits.addf32 (counter (F := Bits) k) (0x3F800000#32 : Bits .f32) = _
    rw [ih (by omega), ← one_word, Bits.addf32_nat k 1 (by omega)]

/-- On words, the second bisection ends after at most 34 halvings. -/
theorem stops : CounterStops Bits := by
  unfold CounterStops
  rw [counter_bits 34 (by decide)]
  show ¬ Bits.cmpf32 .olt (Bits.f32OfNat 34) (0x42080000#32 : Bits .f32) = 1#1
  rw [← limit_word, Bits.cmpf32_olt_nat (by decide) (by decide)]
  decide

end Cert.Proof.K

end
-- ==== Proof.IdealBody.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameSuffix
public import Idealize.ShloMosaic.Lib.Pipeline.Value
public import Idealize.ShloMosaic.Lib.Tactic
public import Idealize.ShloMosaic.Lib.WordCmp

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ### The threshold search, as functions -/

/-- The whole first bisection, over the row maxima of the block: 27 halvings of `(0.1, 1)`. -/
def rowSearch (x : Vec F S1x84x128x128 .f32) : F .f32 × F .f32 :=
  Scf.fold (fun (_ : Fin k0_t1_loop.trips) (p : F .f32 × F .f32) => (k0_pay13 x p.1 p.2, k0_pay14 x p.1 p.2))
    (Scalar.ofBits .f32 0x3DCCCCCD#32, Scalar.ofBits .f32 0x3F800000#32)

/-- Whether the second bisection goes on: more than 124 survivors and fewer than 34 halvings done. -/
def goesOn (cl it : F .f32) : BitVec 1 :=
  Scalar.andi (Scalar.cmpf .ogt cl (Scalar.ofBits .f32 0x42F80000#32)) (Scalar.cmpf .olt it (Scalar.ofBits .f32 0x42080000#32))

/-- The second bisection with at most `k` halvings to go. -/
def search (v : FVec F S10240x128 .f32) : ℕ → F .f32 → F .f32 → F .f32 → F .f32 → F .f32 × F .f32 × F .f32 × F .f32
  | 0, lo, hi, cl, it => (lo, hi, cl, it)
  | k + 1, lo, hi, cl, it =>
    if goesOn cl it = 1#1 then search v k (k0_pay4 v lo hi) (k0_pay5 v lo hi) (k0_pay6 v lo hi cl) (k0_pay7 it)
    else (lo, hi, cl, it)

/-- The counter of the second bisection after `k` halvings. -/
def counter : ℕ → F .f32
  | 0 => Scalar.ofBits .f32 0x00000000#32
  | k + 1 => k0_pay7 (counter k)

/-- The counter stops the second bisection after 34 halvings. -/
def CounterStops (F : FTy → Type) [FloatOps F] : Prop :=
  ¬ Scalar.cmpf .olt (counter (F := F) 34) (Scalar.ofBits .f32 0x42080000#32) = 1#1

/-- The threshold of the block: what both bisections leave as their lower end. -/
def threshold (x : Vec F S1x84x128x128 .f32) : F .f32 :=
  (search (k0_pay10 x) 34 (rowSearch x).1 (k0_pay15 x) (k0_pay16 x (rowSearch x).1) (counter 0)).1

/-! ### The body as a function of the block -/

/-- The three compacted rows (value, row of the heat map, column), over the four sweeps. -/
def sweeps (x : Vec F S1x84x128x128 .f32) (lo : F .f32) :
    FVec F S1x128 .f32 × FVec F S1x128 .f32 × FVec F S1x128 .f32 :=
  Scf.fold (fun (t : Fin k0_t2_loop.trips) (p : FVec F S1x128 .f32 × FVec F S1x128 .f32 × FVec F S1x128 .f32) =>
      (k0_pay31 (k0_pay10 x) (k0_pay17 x lo) (k0_pay19 (iota .tc S10240x128 32 [1] iota_S10240x128_d1_w32)) k0_pay21 (k0_pay22 (k0_pay18 x lo))
          (k0_pay23 (k0_pay18 x lo)) (k0_pay24 (k0_pay18 x lo)) t p.1,
        k0_pay32 (k0_pay19 (iota .tc S10240x128 32 [1] iota_S10240x128_d1_w32)) (k0_pay23 (k0_pay18 x lo)) (k0_pay24 (k0_pay18 x lo)) t p.2.1,
        k0_pay33 (k0_pay17 x lo) (k0_pay19 (iota .tc S10240x128 32 [1] iota_S10240x128_d1_w32)) k0_pay21 (k0_pay22 (k0_pay18 x lo))
          (k0_pay23 (k0_pay18 x lo)) (k0_pay24 (k0_pay18 x lo)) t p.2.2))
    (k0_pay25, k0_pay26, k0_pay27)

/-- The result block computed from the three compacted rows. -/
def ranked (x : Vec F S1x84x128x128 .f32) (lo : F .f32) (p : FVec F S1x128 .f32 × FVec F S1x128 .f32 × FVec F S1x128 .f32) :
    FVec F S1x6x128 .f32 :=
  let P := k0_pay35 (k0_pay23 (k0_pay18 x lo)) p.1
  k0_pay1 (k0_pay8 x) (k0_pay37 (k0_pay36 (k0_pay23 (k0_pay18 x lo)) p.1)) (k0_pay39 p.2.2 P) (k0_pay40 p.2.1 P) (k0_pay41 p.2.1 P)
    (k0_pay43 p.2.2 P) (k0_pay44 p.2.1 P) (k0_pay45 (k0_pay8 x) p.2.1 p.2.2 P) (k0_pay46 (k0_pay8 x) p.2.1 p.2.2 P)
    (k0_pay47 (k0_pay8 x) p.2.1 p.2.2 P)

/-- What the body writes for the block `x`. -/
def outBlk (x : Vec F S1x84x128x128 .f32) : FVec F S1x6x128 .f32 :=
  ranked x (threshold x) (sweeps x (threshold x))

/-! ### The second bisection's label -/

/-- The certificate's variants: the halvings still to go. -/
abbrev 𝒱₀ : Variants := Variants.nat

/-- The label entered with `k` halvings to go returns what `search` computes. -/
theorem label_runs (c : Dev nD) (i : grid0.Coords) (v : FVec F S10240x128 .f32) (hs : CounterStops F) (E : Set ℕ) :
    ∀ k j, j + k = 34 → ∀ (lo hi cl : F .f32) (K : F .f32 × F .f32 × F .f32 × F .f32 → sProp 𝕄),
      (pure (search v k lo hi cl (counter j)) : sWPT 𝕄 (F .f32 × F .f32 × F .f32 × F .f32)) K
        ⊢ wp frame (wpE (defs₀ (F := F)) 𝒱₀ (c : Thread nD τ) (some k)) E
            (defs₀ (F := F) .tc 1 ⟨i, v, lo, hi, cl, counter j⟩) K := by
  intro k
  induction k with
  | zero =>
    intro j hj lo hi cl K
    show _ ⊢ wp frame (wpE (defs₀ (F := F)) 𝒱₀ (c : Thread nD τ) (some 0)) E (cc0_while1 i v lo hi cl (counter j)) K
    simp only [cc0_while1_eq_skeleton]; unfold cc0_while1_skel
    have htest : ¬ goesOn cl (counter (F := F) j) = 1#1 := by
      obtain rfl : j = 34 := by omega
      unfold CounterStops at hs
      unfold goesOn
      revert hs
      generalize Scalar.cmpf .ogt cl (Scalar.ofBits .f32 0x42F80000#32) = a
      generalize Scalar.cmpf .olt (counter (F := F) 34) (Scalar.ofBits .f32 0x42080000#32) = b
      revert a b; decide
    unfold goesOn at htest
    simp only [htest, ↓reduceIte, Prog.pure_eq_ret]
    rw [wp_ret]
    show K (lo, hi, cl, counter j) ⊢ _
    iintro H; imodintro; iexact H
  | succ k ih =>
    intro j hj lo hi cl K
    show _ ⊢ wp frame (wpE (defs₀ (F := F)) 𝒱₀ (c : Thread nD τ) (some (k + 1))) E (cc0_while1 i v lo hi cl (counter j)) K
    simp only [cc0_while1_eq_skeleton]; unfold cc0_while1_skel
    show K (search v (k + 1) lo hi cl (counter j)) ⊢ _
    rw [search]
    by_cases htest : goesOn cl (counter (F := F) j) = 1#1
    · rw [if_pos htest]
      unfold goesOn at htest
      simp only [htest, ↓reduceIte, Prog.lift, Prog.bind_op, Prog.bind_ret, Prog.pure_eq_ret]
      iintro H
      iapply (wp_call_spec 𝒱₀ (c : Thread nD τ) (some (k + 1)) E
        (pure (search v k (k0_pay4 v lo hi) (k0_pay5 v lo hi) (k0_pay6 v lo hi cl) (counter (j + 1)))) k
        (fun u hu => by cases hu; exact Nat.lt_succ_self k) (ih (j + 1) (by omega) _ _ _))
      show _ ⊢ wp frame (wpE (defs₀ (F := F)) 𝒱₀ (c : Thread nD τ) (some (k + 1))) E
        (Prog.ret (search v k (k0_pay4 v lo hi) (k0_pay5 v lo hi) (k0_pay6 v lo hi cl) (counter (j + 1)))) K
      rw [wp_ret]
      iapply (show K _ ⊢ |={E}=> K _ from BI.fupd_intro)
    · rw [if_neg htest]
      unfold goesOn at htest
      simp only [htest, ↓reduceIte, Prog.pure_eq_ret]
      rw [wp_ret]
      iintro H; imodintro; iexact H

/-! ### The body -/

set_option maxHeartbeats 1000000 in
/-- The body on whole staging memrefs: the input's at the block `x`, the output's at anything; it leaves the input's as it was and
    the output's at `outBlk x`. -/
theorem body_runs (hs : CounterStops F) (c : Dev nD) (i : grid0.Coords) (arg1 : Memref sig .tc .vmem S1x84x128x128 .f32) (harg1 : arg1.IsWhole)
    (arg2 : Memref sig .tc .vmem S1x6x128 .f32) (harg2 : arg2.IsWhole) (x : Vec F S1x84x128x128 .f32) (E : Set ℕ) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (outBlk x)) -∗ K ⟨⟩))
      ⊢ wp frame (wpE (defs₀ (F := F)) 𝒱₀ (c : Thread nD τ) none) E (cc0__body i arg1 harg1 arg2 harg2) K := by
  simp only [cc0__body_eq_skeleton]; unfold cc0__body_skel
  simp only [k0_part1_eq_skeleton, k0_part2_eq_skeleton, k0_part3_eq_skeleton, k0_part4_eq_skeleton]
  unfold owns
  iintro ⟨⟨%f0, %hf0, H0⟩, ⟨%d1, %f1, -, H1⟩, Hk⟩
  obtain rfl := harg1.eq_unread hf0
  have hx : View.readAt (Elt F) arg1.view
      (Rect.unit (s := S1x84x128x128) ![0, 0, 0, 0] S1x84x128x128.size inb_S1x84x128x128_S1x84x128x128_0_0_0_0).toLoadRect (harg1.unread x) = x := by
    refine (congrArg (fun X => View.ld X (Rect.unit (s := S1x84x128x128) ![0, 0, 0, 0] S1x84x128x128.size inb_S1x84x128x128_S1x84x128x128_0_0_0_0)) hf0).trans ?_
    exact View.ld_unit_zero (funext fun a => by fin_cases a <;> rfl) _ x
  sl_exec
  have hr : body_runs.sl.r x = rowSearch x := rfl
  rw [hr]
  iapply (wp_call_spec 𝒱₀ (c : Thread nD τ) none E
    (pure (search (k0_pay10 x) 34 (rowSearch x).1 (k0_pay15 x) (k0_pay16 x (rowSearch x).1) (counter 0))) 34
    (fun u hu => nomatch hu) (label_runs c i _ hs E 34 0 rfl _ _ _))
  show _ ⊢ wp frame (wpE (defs₀ (F := F)) 𝒱₀ (c : Thread nD τ) none) E
    (Prog.ret (⟨k0_pay8 x, k0_pay10 x, k0_pay17 x (threshold x), k0_pay18 x (threshold x), iota .tc S10240x128 32 [1] iota_S10240x128_d1_w32⟩ :
      Σ' (_ : FVec F S84x128x128 .f32) (_ : FVec F S10240x128 .f32) (_ : IVec S10240x128 1) (_ : FVec F S10240x128 .f32), IVec S10240x128 32)) _
  rw [wp_ret]
  iintro ⟨⟨H0, H1⟩, Hk⟩
  imodintro
  sl_exec
  sl_step
  iapply Hk
  isplitl [H0]
  · iexists _; isplitr; · (ipureintro; exact hf0)
    iexact H0
  iexists _; isplitr; swap; · iexact H1
  ipureintro
  have h0 : (![0, 0, 0] : Fin S1x6x128.rank → ℕ) = fun _ => 0 := funext fun a => by fin_cases a <;> rfl
  have hw : ∀ w : FVec F S1x6x128 .f32, w = outBlk x → View.read (Elt F) arg2.view (arg2.view.writes (Elt F) f1
      [⟨Rect.unit (s := S1x6x128) ![0, 0, 0] ![1, 6, 128] inb_S1x6x128_S1x6x128_0_0_0, w⟩]) = outBlk x := by
    rintro w rfl
    rw [View.read_writes_eq_canon arg2.view f1 _ fun y => ⟨_, List.mem_singleton_self _,
      View.mem_set_unit_zero h0 inb_S1x6x128_S1x6x128_0_0_0 y⟩]
    exact View.canon_unit_zero h0 _ _
  refine hw _ ?_
  rfl

end Cert.Proof.KI

end
-- ==== Proof.IdealRun.lean ====
module

public import proofs.«01_k».proof.Proof.IdealBody
public import Idealize.ShloMosaic.Lib.Claim

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ### The program around its grid -/

/-- Core `c`'s buffers when the grid is entered: the memory at launch. -/
abbrev V0 (c : Dev nD) : Valuation τ sig (Elt F) := StableHlo.after (List.flatten []) (fun b => m (c, b))
/-- The same at one buffer. -/
abbrev V (c : Dev nD) (b : Ref sig .tc) : Buf (Elt F) ((c : Thread nD τ).loc b) := V0 m c (Proc.devRef .tc b)

set_option maxHeartbeats 800000 in
/-- The program is its grid followed by the transposition and the cut of the result. -/
theorem hmain : Pipeline.HMainK (Ix := Unit) (Name := ℕ) (U := UR sig nD τ) (Lvl := ℕ) cfgs 0 (defs₀ (F := F)) 𝒱₀ m (main (F := F)) (V m)
      (fun _ => Pipeline.chain ([hostOps1 (F := F)].map StableHlo.seq)) :=
  Pipeline.hmain_around cfgs 0 (defs₀ (F := F)) 𝒱₀ m main [] [hostOps1 (F := F)] (by simp only [List.Forall])
    (by simp only [List.Forall]) main_chain

/-- The two later operations touch unscoped buffers only; -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 (launch0 (F := F)).win.arr_unscoped]
  intro ops hops op hop
  obtain rfl : ops = hostOps1 := List.mem_singleton.mp hops
  exact Pipeline.sub_ucRefs op ((List.forall_iff_forall_mem.mp hostOps1_sub) op hop)

/-- they allocate nothing; -/
theorem tail_fresh : ∀ ops ∈ ([hostOps1] : List (List (HloOp τ sig (Elt F)))), ∀ op ∈ ops, op.fresh = ∅ := by
  intro ops hops op hop
  obtain rfl : ops = hostOps1 := List.mem_singleton.mp hops
  simp only [hostOps1, List.mem_cons, List.mem_nil_iff, or_false] at hop
  rcases hop with rfl | rfl <;> rfl

/-- and they write neither the argument nor the grid's result. -/
theorem tail_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := List.mem_singleton.mp hops
  simp only [hostOps1, List.mem_cons, List.mem_nil_iff, or_false] at hop
  rcases hop with rfl | rfl
  all_goals intro w; fin_cases w <;> simp only [StableHlo.unary_writes, Finset.mem_singleton] <;> exact StableHlo.devRef_ne_of_ne (by decide)

/-! ### The grid's proof data -/

/-- The block of the argument at grid point `t`. -/
def iblk (c : Dev nD) (t : Fin (cfg0 (F := F)).N) : Vec F S1x84x128x128 .f32 :=
  (((cfg0 (F := F)).win 0).blk t).view.read (Elt F) (V m c (Pipeline.arrRef spec0 0))

/-- The proof data: after the body at point `t` the argument's buffer holds its block and the result's what the body computes of it. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c t
    | ⟨1, _⟩ => outBlk (iblk m c t)
  Φ _ := Pipeline.ΦA spec0 c
  q _ := fullShare
  owed _ := 0

/-- The arrays at the start are those of the memory at launch. -/
theorem A_eq (c : Dev nD) (w : Fin (cfg0 (F := F)).W) : (dats m 0 c).A w = V m c (Pipeline.arrRef spec0 w) := by
  dsimp only [dats]

/-- After the body at point `t` the argument's buffer holds its block. -/
theorem after_0 (c : Dev nD) (t : Fin (cfg0 (F := F)).N) : (dats m 0 c).after 0 t = iblk m c t := by dsimp only [dats]; rfl
/-- After the body at point `t` the result's buffer holds what the body computes of the block. -/
theorem after_1 (c : Dev nD) (t : Fin (cfg0 (F := F)).N) : (dats m 0 c).after 1 t = outBlk (iblk m c t) := by dsimp only [dats]; rfl

/-- The argument's staging buffer holds its block at every point. -/
theorem before_0 (c : Dev nD) (t : Fin (cfg0 (F := F)).N) (d) : (dats m 0 c).before 0 t d = iblk m c t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)

/-! ### The body obligation -/

/-- What the body is called with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- And what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at a grid point runs from the one to the other. -/
theorem sound_body (hs : CounterStops F) (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before_0]
  rw [show (dats m 0 c).Φ t.succ = (dats m 0 c).Φ t.castSucc from rfl,
    show (dats m 0 c).owesAt () t.succ = (dats m 0 c).owesAt () t.castSucc from rfl,
    after_0, after_1]
  iintro ⟨HΦ, Ho, ⟨%d0, H0⟩, ⟨%d1, H1⟩⟩
  iapply (body_runs hs c (grid0.coords t) _ _ _ _ (iblk m c t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body called at point `t` is the kernel's body there. -/
theorem defs₀_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

/-- The obligation at every grid point. -/
theorem body_obligation (hs : CounterStops F) (c : Dev nD) :
    BodyObligation (dats (F := F) m 0 c) (defs₀ (F := F)) 𝒱₀ () Set.univ := fun t => by
  rw [bigSep_W0, bigSep_W0, defs₀_row]
  exact triple_restated (sound_body m hs c t) rfl .rfl fun _ => .rfl

/-! ### The run -/

set_option backward.isDefEq.respectTransparency.types false in
set_option maxHeartbeats 800000 in
/-- Every weakly fair execution ends, with every buffer at what the proof data and the two later operations say, and every
    semaphore counter at zero. -/
theorem run_main (hs : CounterStops F) : θ_run defs (onTc (τ := τ) (main (F := F))) (s₀ m ρ)
    (fun r => Pipeline.FramePost cfgs (dats m) (0 : Fin 1) (Pipeline.afterTail₀ cfgs (dats m) (0 : Fin 1) (V0 m) [hostOps1]) r ∧ r.2.sem = fun _ => 0) :=
  Pipeline.θ_run_frame_around (Q' := _) cfgs (dats m) (0 : Fin 1) launch0 defs₀ 𝒱₀ m ρ main
    (hbody := fun c => (body_obligation m hs c).loose) (hshare := fun c => (dats m 0 c).share_full fun _ => rfl)
    (howed := fun _ _ => rfl) (V₀ := V0 m) (opss := [hostOps1]) (hsub := tail_sub) (hfresh := tail_fresh) (hkeep := tail_keeps)
    (hmain := hmain m) (hA := A_eq m) (hΦ := fun _ _ => rfl)

/-- The argument ends unchanged and every semaphore counter at zero. -/
theorem quiescent (hs : CounterStops F) : θ_run defs (onTc (τ := τ) (main (F := F))) ⟨m, fun _ => 0, ρ⟩ (fun r => (∀ c : Dev nD,
      r.2.mem ((c.tc : Thread nD τ).loc main_arg0) = m ((c.tc : Thread nD τ).loc main_arg0)) ∧ r.2.sem = fun _ => 0) := by
  refine (θ_run defs _ _).mono (fun r h => ⟨fun c => ?_, h.2⟩) (run_main m ρ hs)
  refine ((h.1 c).1 0).trans (((dats m 0 c).arrAt_in 0 rfl _).trans (A_eq m c 0))

end Cert.Proof.KI

end
-- ==== Proof.IdealCounter.lean ====
module

public import proofs.«01_k».proof.Defs
public import proofs.«01_k».proof.Proof.IdealBody

@[expose] public section

set_option maxRecDepth 16384

namespace Cert.Proof.KI

open Idealize.ShloMosaic Cert.KernelIdeal Cert.KernelIdeal.Gen

/-- The constant one. -/
theorem ofBits_one : Ideal.ofBits .f32 0x3F800000#32 = ((1 : ℝ) : EReal) := by
  simp [Ideal.ofBits, Ideal.ieee, -EReal.coe_mul]; norm_num

/-- The constant thirty-four. -/
theorem ofBits_34 : Ideal.ofBits .f32 0x42080000#32 = ((34 : ℝ) : EReal) := by
  simp [Ideal.ofBits, Ideal.ieee, -EReal.coe_mul]; norm_num

/-- After `k` halvings the counter is `k`. -/
theorem counter_ideal (k : ℕ) : counter (F := Ideal) k = ((k : ℝ) : EReal) := by
  induction k with
  | zero => show Ideal.ofBits .f32 0#32 = _; simp [Ideal.ofBits, Ideal.ieee]
  | succ k ih =>
    show counter (F := Ideal) k + Ideal.ofBits .f32 0x3F800000#32 = _
    rw [ih, ofBits_one]; push_cast; rfl

/-- On extended reals, the second bisection ends after at most 34 halvings. -/
theorem stops : CounterStops Ideal := by
  unfold CounterStops
  rw [counter_ideal]
  show ¬ Ideal.cmp .olt ((34 : ℕ) : ℝ) (Ideal.ofBits .f32 0x42080000#32) = 1#1
  rw [ofBits_34]
  simp [Ideal.cmp]

end Cert.Proof.KI

end
-- ==== Proof.RefRun.lean ====
module

public import proofs.«01_k».proof.Proof.Gen.ReferenceIdeal.Run
public import proofs.«01_k».proof.Proof.Gen.ReferenceIdeal.Read

@[expose] public section
end
-- ==== Proof.Frames.lean ====
module

public import proofs.«01_k».proof.Defs
public import proofs.«01_k».proof.Proof.WordRun
public import proofs.«01_k».proof.Proof.WordCounter
public import proofs.«01_k».proof.Proof.IdealRun
public import proofs.«01_k».proof.Proof.IdealCounter
public import proofs.«01_k».proof.Proof.RefRun
public import Idealize.ShloMosaic.Adequacy
public import Idealize.ShloMosaic.Init

@[expose] public section

namespace Cert.Proof

open Idealize.ShloMosaic Idealize.SL.Sem

/-- The kernel, on words: it runs, its argument ends unchanged and every counter ends at zero. -/
theorem frame_word : Cert.quiescent_Kernel (hKernel := Cert.Kernel.Gen.facts) :=
  fun m ρ _ => K.quiescent m ρ K.stops

/-- The kernel, on extended reals: it runs, its argument ends unchanged and every counter ends at zero. -/
theorem frame_ideal : Cert.quiescent_KernelIdeal (hKernelIdeal := Cert.KernelIdeal.Gen.facts) :=
  fun m ρ _ => KI.quiescent m ρ KI.stops

/-- The reference, on extended reals: it runs, its argument ends unchanged and it declares no counter. -/
theorem frame_ref : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.FinalArray.lean ====
module

public import proofs.«01_k».proof.Proof.IdealRun
public import Idealize.ShloMosaic.Lib.Pipeline.ValueKit

@[expose] public section

set_option maxRecDepth 16384

noncomputable section

namespace Cert.Proof.KI

open Cert.KernelIdeal Cert.KernelIdeal.Gen
open Idealize.ShloMosaic Idealize.ShloMosaic.TcCoe Idealize.ShloMosaic.Tactic
open Idealize.SL.Sem
open Idealize.ShloMosaic.Pipeline (Dat Cfg Window)

variable {F : FTy → Type} [FloatOps F]
variable (m : (ℓ : Loc nD τ sig) → Buf (Elt F) ℓ) (ρ : Dev nD → PrngReg)

/-- Image `b` of the argument array, as a block. -/
def slab (A : Vec F S8x84x128x128 .f32) (b : Fin 8) : Vec F S1x84x128x128 .f32 := fun j => A (ix4 b (j 1) (j 2) (j 3))

/-- The window of the argument moves along its first axis with the grid point. -/
theorem index_0 : ∀ t : Fin grid0.N, (win0 0).index t 0 = t.val ∧ (win0 0).index t 1 = 0 ∧ (win0 0).index t 2 = 0 ∧ (win0 0).index t 3 = 0 := by
  decide +kernel
/-- So does the result's. -/
theorem index_1 : ∀ t : Fin grid0.N, (win0 1).index t 0 = t.val ∧ (win0 1).index t 1 = 0 ∧ (win0 1).index t 2 = 0 := by decide +kernel

/-- Nothing added, times anything. -/
theorem shift {a n j : ℕ} (h : a = 0) : a * n + j = j := by rw [h, Nat.zero_mul, Nat.zero_add]

/-- The result's blocks cover its array. -/
theorem covers_1 : win0_1.Covers := by decide +kernel

/-- The block at grid point `t` is image `t`. -/
theorem iblk_eq (c : Dev nD) (t : Fin (cfg0 (F := F)).N) (b : Fin 8) (hb : b.val = t.val) :
    iblk m c t = slab (m ((c : Thread nD τ).loc main_arg0)) b := by
  funext j
  unfold slab
  blk_simp [iblk]
  refine congrArg (m ((c : Thread nD τ).loc main_arg0)) ?_
  obtain ⟨e0, e1, e2, e3⟩ := index_0 t
  blk_ext
  · exact e0.trans hb.symm
  · exact shift e1
  · exact shift e2
  · exact shift e3

/-- What the grid's result array holds at the end: at image `b`, what the body computes of that image. -/
def images (A : Vec F S8x84x128x128 .f32) : Vec F S8x6x128 .f32 := fun i => outBlk (slab A (i 0)) (ix3 0 (i 1) (i 2))

/-- Read at a position of image `b`. -/
theorem images_at (A : Vec F S8x84x128x128 .f32) (b : Fin 8) (y : S1x6x128.Idx) (i : S8x6x128.Idx) (h0 : (i 0).val = b.val)
    (h1 : (i 1).val = (y 1).val) (h2 : (i 2).val = (y 2).val) : outBlk (slab A b) y = images A i := by
  unfold images
  have hb : i 0 = b := Fin.ext h0
  have hy : y = ix3 0 (i 1) (i 2) := by
    funext a
    match a with
    | ⟨0, _⟩ => exact Subsingleton.elim (α := Fin 1) _ _
    | ⟨1, _⟩ => exact Fin.ext h1.symm
    | ⟨2, _⟩ => exact Fin.ext h2.symm
  rw [hb]
  exact congrArg (outBlk (slab A b)) hy

/-- The grid's result array ends holding these. -/
theorem final_v0 (c : Dev nD) : (dats m 0 c).arrAt 1 (cfg0 (F := F)).N = images (m ((c : Thread nD τ).loc main_arg0)) := by
  refine (dats m 0 c).arrAt_eq_of_covers 1 _ covers_1 fun t hf y => ?_
  blk_simp
  rw [after_1]
  obtain ⟨e0, e1, e2⟩ := index_1 t
  have ht : t.val < 8 := lt_of_lt_of_eq t.isLt N_0
  refine (congrFun (congrArg outBlk (iblk_eq m c t ⟨t.val, ht⟩ rfl)) _).trans (images_at _ _ _ _ ?_ ?_ ?_)
  all_goals blk_simp
  · exact e0
  · exact shift e1
  · exact shift e2

/-! ### The result -/

/-- The program's result of an argument: the images' blocks turned around and cut to a hundred ranks. -/
def result (A : Vec F S8x84x128x128 .f32) : Vec F S8x100x6 .f32 :=
  extractStridedSlice S8x100x6 ![0, 0, 0] (transpose S8x128x6 [0, 2, 1] (images A) transposes_S8x6x128_S8x128x6_0_2_1) slices_S8x128x6_S8x100x6_0_0_0

/-- After the two later operations the result buffer holds it. -/
theorem tail_v2 (c : Dev nD) : Pipeline.afterTail₀ cfgs (dats m) (0 : Fin 1) (V0 m) [hostOps1] c main_v2 = result (m ((c : Thread nD τ).loc main_arg0)) := by
  have h : Pipeline.withArrays (cfgs (F := F) 0).spec c (V0 m c) (fun w => (dats m 0 c).arrAt w (cfgs (F := F) 0).N) (Proc.devRef .tc main_v0)
      = images (m ((c : Thread nD τ).loc main_arg0)) :=
    (Pipeline.withArrays_arr (cfgs (F := F) 0).spec (launch0 (F := F)).win.arr_inj c _ _ 1).trans (final_v0 m c)
  unfold Pipeline.afterTail₀
  generalize Pipeline.withArrays (cfgs (F := F) 0).spec c (V0 m c) (fun w => (dats m 0 c).arrAt w (cfgs (F := F) 0).N) = W at h ⊢
  unfold result
  rw [← h]
  simp only [List.flatten_cons, List.flatten_nil, List.append_nil, hostOps1]
  after_results

/-- The result buffer is neither of the grid's arrays. -/
theorem arr_ne_v2 : ∀ w : Fin 2, (spec0 w).arr.view.ref ≠ main_v2 := by decide

/-- Every weakly fair execution ends with the result buffer at this and the argument unchanged. -/
theorem run_result (hs : CounterStops F) : θ_run defs (onTc (τ := τ) (main (F := F))) ⟨m, fun _ => 0, ρ⟩ (fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0)) := by
  refine (θ_run defs _ _).mono (fun r h c => ⟨?_, ?_⟩) (run_main m ρ hs)
  · exact ((h.1 c).2 main_v2 (Pipeline.mem_restRefs_of main_v2 rfl arr_ne_v2)).trans (tail_v2 m c)
  · exact ((h.1 c).1 0).trans (((dats m 0 c).arrAt_in 0 rfl _).trans (A_eq m c 0))

end Cert.Proof.KI
end
-- ==== Proof.Rank.lean ====
module

public import Idealize.ShloMosaic.Lib.Pointwise
public import Idealize.ShloMosaic.Lib.SortFacts
public import Idealize.ShloMosaic.Lib.SortPrefix

@[expose] public section

namespace Cert.Proof.Rank

open Finset Idealize.ShloMosaic

variable {α β : Type} [Fintype α] [LinearOrder α] [Fintype β] [LinearOrder β]

/-- `b` comes before `a` in the order "greater key first, of equal keys the earlier position first". -/
def Beats (f : α → ℝ) (b a : α) : Prop := f a < f b ∨ (f b = f a ∧ b < a)

/-- The place of `a` in that order: how many elements come before it. -/
noncomputable def rk (f : α → ℝ) (a : α) : ℕ := by
  classical exact (univ.filter fun b => Beats f b a).card

/-- How many keys are above `a`. -/
noncomputable def above (f : α → ℝ) (a : ℝ) : ℕ := by
  classical exact (univ.filter fun b => a < f b).card

omit [Fintype α] in
/-- Nothing comes before itself. -/
theorem beats_irrefl (f : α → ℝ) (a : α) : ¬ Beats f a a := by
  rintro (h | ⟨_, h⟩) <;> exact lt_irrefl _ h

omit [Fintype α] in
/-- Coming before is transitive. -/
theorem beats_trans {f : α → ℝ} {a b c : α} (h : Beats f a b) (h' : Beats f b c) : Beats f a c := by
  rcases h with h | ⟨h, l⟩ <;> rcases h' with h' | ⟨h', l'⟩
  · exact .inl (h'.trans h)
  · exact .inl (h' ▸ h)
  · exact .inl (h ▸ h')
  · exact .inr ⟨h.trans h', l.trans l'⟩

omit [Fintype α] in
/-- Of two different indices one comes before the other. -/
theorem beats_total {f : α → ℝ} {a b : α} (h : a ≠ b) : Beats f a b ∨ Beats f b a := by
  rcases lt_trichotomy (f a) (f b) with h1 | h1 | h1
  · exact .inr (.inl h1)
  · rcases lt_or_gt_of_ne h with h2 | h2
    · exact .inl (.inr ⟨h1, h2⟩)
    · exact .inr (.inr ⟨h1.symm, h2⟩)
  · exact .inl (.inl h1)

/-- An element before another has the smaller place. -/
theorem rk_lt {f : α → ℝ} {a b : α} (h : Beats f a b) : rk f a < rk f b := by
  classical
  unfold rk
  refine card_lt_card (ssubset_iff_of_subset ?_ |>.mpr ⟨a, ?_, ?_⟩)
  · intro c hc
    simp only [mem_filter, mem_univ, true_and] at hc ⊢
    exact beats_trans hc h
  · simpa using h
  · simpa using beats_irrefl f a

/-- No two elements have one place. -/
theorem rk_injective (f : α → ℝ) : Function.Injective (rk f) := by
  intro a b h
  by_contra hne
  rcases beats_total (f := f) hne with h' | h'
  · exact absurd h (rk_lt h').ne
  · exact absurd h (rk_lt h').ne'

/-- A place is below the number of elements. -/
theorem rk_lt_card (f : α → ℝ) (a : α) : rk f a < Fintype.card α := by
  classical
  unfold rk
  rw [← card_univ]
  refine card_lt_card (ssubset_iff_of_subset (subset_univ _) |>.mpr ⟨a, mem_univ _, ?_⟩)
  simpa using beats_irrefl f a

/-- Every place is taken. -/
theorem exists_rk {n : ℕ} (f : Fin n → ℝ) (k : Fin n) : ∃ i, rk f i = k := by
  have hinj : Function.Injective fun i : Fin n => (⟨rk f i, by simpa using rk_lt_card f i⟩ : Fin n) := by
    intro a b h
    exact rk_injective f (by simpa using h)
  obtain ⟨i, hi⟩ := (Finite.injective_iff_surjective.mp hinj) k
  exact ⟨i, congrArg Fin.val hi⟩

/-- An element's key is above `a` exactly when fewer elements come before it than have their keys above `a`. -/
theorem lt_iff_rk_lt (f : α → ℝ) (a : ℝ) (e : α) : a < f e ↔ rk f e < above f a := by
  classical
  unfold rk above
  constructor
  · intro h
    refine card_lt_card (ssubset_iff_of_subset ?_ |>.mpr ⟨e, ?_, ?_⟩)
    · intro c hc
      simp only [mem_filter, mem_univ, true_and] at hc ⊢
      rcases hc with hc | ⟨hc, _⟩
      · exact h.trans hc
      · exact hc ▸ h
    · simpa using h
    · simpa using beats_irrefl f e
  · intro h
    by_contra hle
    refine absurd h (not_lt.mpr (card_le_card ?_))
    intro c hc
    simp only [mem_filter, mem_univ, true_and] at hc ⊢
    exact .inl (lt_of_le_of_lt (not_lt.mp hle) hc)

/-- Fewer keys are above the greater bound. -/
theorem above_anti (f : α → ℝ) {a b : ℝ} (h : a ≤ b) : above f b ≤ above f a := by
  classical
  unfold above
  refine card_le_card fun c hc => ?_
  simp only [mem_filter, mem_univ, true_and] at hc ⊢
  exact lt_of_le_of_lt h hc

/-- Where the elements above a bound are laid out in order, keys kept, at the places of a second family that are above the
    bound, an element keeps its place. -/
theorem rk_eq_of_layout {f : α → ℝ} {g : β → ℝ} {lo : ℝ} {φ : α → β}
    (hmono : ∀ e e', lo < f e → lo < f e' → e < e' → φ e < φ e') (hval : ∀ e, lo < f e → g (φ e) = f e)
    (hsurj : ∀ j, lo < g j → ∃ e, lo < f e ∧ φ e = j) {e : α} (he : lo < f e) : rk g (φ e) = rk f e := by
  classical
  have hlt : ∀ {a b}, lo < f a → lo < f b → (φ a < φ b ↔ a < b) := by
    intro a b ha hb
    refine ⟨fun h => ?_, hmono a b ha hb⟩
    rcases lt_trichotomy a b with h' | h' | h'
    · exact h'
    · exact absurd h (h' ▸ lt_irrefl _)
    · exact absurd h (hmono b a hb ha h').asymm
  have hbeat : ∀ {a}, lo < f a → (Beats g (φ a) (φ e) ↔ Beats f a e) := by
    intro a ha
    unfold Beats
    rw [hval a ha, hval e he, hlt ha he]
  have hup : ∀ {a}, Beats f a e → lo < f a := by
    rintro a (h | ⟨h, _⟩)
    · exact he.trans h
    · exact h ▸ he
  unfold rk
  symm
  refine card_bij (fun a _ => φ a) ?_ ?_ ?_
  · intro a ha
    simp only [mem_filter, mem_univ, true_and] at ha ⊢
    exact (hbeat (hup ha)).mpr ha
  · intro a ha b hb h
    simp only [mem_filter, mem_univ, true_and] at ha hb
    rcases lt_trichotomy a b with h' | h' | h'
    · exact absurd h (hmono a b (hup ha) (hup hb) h').ne
    · exact h'
    · exact absurd h (hmono b a (hup hb) (hup ha) h').ne'
  · intro j hj
    simp only [mem_filter, mem_univ, true_and] at hj
    have hg : lo < g j := by
      rw [← hval e he] at he
      rcases hj with h | ⟨h, _⟩
      · exact he.trans h
      · exact h ▸ he
    obtain ⟨a, ha, rfl⟩ := hsurj j hg
    exact ⟨a, by simpa using (hbeat ha).mp hj, rfl⟩

/-! ### The stable sort by "greater first" -/

/-- Inserting an element that precedes a list's elements gives one list under two comparisons that agree on "a listed element is before it". -/
theorem insertBefore_eq {ι : Type} (R B : ι → ι → Bool) (a : ι) (l : List ι) (h : ∀ b ∈ l, R b a = B b a) :
    insertBefore R a l = insertBefore B a l := by
  induction l with
  | nil => rfl
  | cons b l ih =>
    unfold insertBefore
    rw [h b (List.mem_cons_self), ih fun c hc => h c (List.mem_cons_of_mem _ hc)]

/-- Sorting a list whose later elements are compared alike with the earlier ones by two comparisons gives one list. -/
theorem stableSort_eq {ι : Type} (R B : ι → ι → Bool) (l : List ι) (h : l.Pairwise fun a b => R b a = B b a) :
    stableSort R l = stableSort B l := by
  induction l with
  | nil => rfl
  | cons a l ih =>
    rw [List.pairwise_cons] at h
    unfold stableSort
    rw [ih h.2]
    exact insertBefore_eq R B a _ fun b hb => h.1 b ((perm_stableSort B l).mem_iff.mp hb)

open Classical in
/-- The stable sort by "greater key first" is the sort by `Beats`. -/
theorem sortedFrom_greater {n : ℕ} (f : Fin n → ℝ) (R : Fin n → Fin n → Bool) (hR : ∀ a b, R a b = decide (f b < f a)) (k : Fin n) :
    sortedFrom R k = sortedFrom (fun a b => decide (Beats f a b)) k := by
  have hs : sortPositions n R = sortPositions n fun a b => decide (Beats f a b) := by
    unfold sortPositions
    refine stableSort_eq _ _ _ ((List.pairwise_lt_finRange n).imp fun {a b} hab => ?_)
    rw [hR]
    refine decide_eq_decide.mpr ⟨.inl, ?_⟩
    rintro (h | ⟨_, h⟩)
    · exact h
    · exact absurd h hab.asymm
  unfold sortedFrom
  simp only [List.get_eq_getElem, hs, Fin.val_cast]

open Classical in
/-- Coming before is a strict total order, as the selection asks. -/
theorem strictTotal {n : ℕ} (f : Fin n → ℝ) : StrictTotalBefore fun a b : Fin n => decide (Beats f a b) where
  irrefl a := by simpa using beats_irrefl f a
  trans a b c h h' := by
    simp only [decide_eq_true_eq] at h h' ⊢
    exact beats_trans h h'
  total a b h := by simpa using beats_total (f := f) h

/-- The element the stable sort by "greater key first" puts at `k` has place `k`. -/
theorem rk_sortedFrom {n : ℕ} (f : Fin n → ℝ) (R : Fin n → Fin n → Bool) (hR : ∀ a b, R a b = decide (f b < f a)) (k : Fin n) :
    rk f (sortedFrom R k) = k := by
  classical
  rw [sortedFrom_greater f R hR]
  set s : Fin n → Fin n := sortedFrom fun a b => decide (Beats f a b) with hsdef
  have hB := strictTotal f
  have hinj : Function.Injective s := sortedFrom_injective _
  have hsur : Function.Surjective s := sortedFrom_surjective _
  have hord : ∀ i j, i < j → Beats f (s i) (s j) := by
    intro i j hij
    have h := sortedFrom_noInversion (fun a b => decide (Beats f a b)) (fun a b => decide (Beats f a b))
      (fun a b h => hB.asymm a b h) (fun _ _ h => h) hB.negTrans i j hij
    have h' : ¬ Beats f (s j) (s i) := by simpa using h
    exact (beats_total fun h => hij.ne (hinj h)).resolve_right h'
  have hiff : ∀ i, Beats f (s i) (s k) ↔ i < k := by
    intro i
    refine ⟨fun h => ?_, hord i k⟩
    rcases lt_trichotomy i k with h' | h' | h'
    · exact h'
    · subst h'; exact absurd h (beats_irrefl f _)
    · exact absurd (beats_trans h (hord k i h')) (beats_irrefl f _)
  unfold rk
  rw [← Fin.card_Iio k]
  symm
  refine card_bij (fun i _ => s i) ?_ ?_ ?_
  · intro i hi
    simpa using (hiff i).mpr (by simpa using hi)
  · intro i _ j _ h
    exact hinj h
  · intro e he
    obtain ⟨i, rfl⟩ := hsur e
    exact ⟨i, by simpa using (hiff i).mp (by simpa using he), rfl⟩

end Cert.Proof.Rank

end
-- ==== Proof.RefOps.lean ====
module

public import proofs.«01_k».proof.Proof.Rank

@[expose] public section

set_option maxRecDepth 16384

namespace Cert.Proof.RefOps

open Idealize.ShloMosaic Cert.Proof.Rank

/-! ### The greatest elements of each row -/

/-- The `k`-th of the greatest elements of row `b` is the element of place `k` of that row, and its index is that element's position. -/
theorem topK_apply {K : ℕ} (x : FVec Ideal ⟨2, ![8, 1310720]⟩ .f32) (h : (⟨2, ![8, 1310720]⟩ : Shape).Slices (fun _ => 0) ⟨2, ![8, K]⟩)
    (b : Fin 8) (f : Fin 1310720 → ℝ) (hf : ∀ e, x (ix2 b e) = ((f e : ℝ) : EReal)) (k : Fin K) :
    ∃ e : Fin 1310720, rk f e = k.val
      ∧ (Host.topK ⟨2, ![8, K]⟩ 1 (FloatOps.cmpfTotal (F := Ideal) (φ := .f32) .gt) x h).1 (ix2 b k) = ((f e : ℝ) : EReal)
      ∧ (Host.topK ⟨2, ![8, K]⟩ 1 (FloatOps.cmpfTotal (F := Ideal) (φ := .f32) .gt) x h).2 (ix2 b k) = BitVec.ofNat 32 e.val := by
  have hk : k.val < 1310720 := by
    have h1 := h.2 (1 : Fin 2)
    have h2 : 0 + K ≤ 1310720 := h1
    omega
  set R : Fin 1310720 → Fin 1310720 → Bool := fun a a' =>
    FloatOps.cmpfTotal (F := Ideal) (φ := .f32) .gt (x (ix2 b a)) (x (ix2 b a')) == 1#1 with hRdef
  have hR : ∀ a a', R a a' = decide (f a' < f a) := by
    intro a a'
    show (Ideal.cmp .ogt (x (ix2 b a)) (x (ix2 b a')) == 1#1) = _
    rw [hf, hf]
    simp only [Ideal.cmp, EReal.coe_lt_coe_iff]
    by_cases h : f a' < f a <;> simp [h]
  have hal : ∀ a : Fin 1310720, (ix2 b (⟨k.val, hk⟩ : Fin 1310720) : (⟨2, ![8, 1310720]⟩ : Shape).Idx).along 1 a = ix2 b a := by
    intro a
    funext i
    match i with
    | ⟨0, _⟩ => rfl
    | ⟨1, _⟩ => rfl
  have hRR : (fun a a' => FloatOps.cmpfTotal (F := Ideal) (φ := .f32) .gt
        (x ((ix2 b (⟨k.val, hk⟩ : Fin 1310720) : (⟨2, ![8, 1310720]⟩ : Shape).Idx).along 1 a))
        (x ((ix2 b (⟨k.val, hk⟩ : Fin 1310720) : (⟨2, ![8, 1310720]⟩ : Shape).Idx).along 1 a')) == 1#1) = R := by
    funext a a'
    rw [hRdef]
    exact congrArg (· == 1#1) (congrArg₂ _ (congrArg x (hal a)) (congrArg x (hal a')))
  have hsort : ∀ {γ : Type} (y : (⟨2, ![8, 1310720]⟩ : Shape).Idx → γ), y ((ix2 b (⟨k.val, hk⟩ : Fin 1310720) : (⟨2, ![8, 1310720]⟩ : Shape).Idx).along 1
      (sortedFrom (fun a a' => FloatOps.cmpfTotal (F := Ideal) (φ := .f32) .gt
        (x ((ix2 b (⟨k.val, hk⟩ : Fin 1310720) : (⟨2, ![8, 1310720]⟩ : Shape).Idx).along 1 a))
        (x ((ix2 b (⟨k.val, hk⟩ : Fin 1310720) : (⟨2, ![8, 1310720]⟩ : Shape).Idx).along 1 a')) == 1#1) (⟨k.val, hk⟩ : Fin 1310720)))
      = y (ix2 b (sortedFrom R ⟨k.val, hk⟩)) := by
    intro γ y
    rw [hRR]
    exact congrArg y (hal _)
  have hsl : ∀ {γ : Type} (y : (⟨2, ![8, 1310720]⟩ : Shape).Idx → γ), extractStridedSlice ⟨2, ![8, K]⟩ (fun _ => 0) y h (ix2 b k)
      = y (ix2 b ⟨k.val, hk⟩) := fun y => by
    unfold extractStridedSlice
    congr 1
    funext a
    match a with
    | ⟨0, _⟩ => exact Fin.ext (Nat.zero_add _)
    | ⟨1, _⟩ => exact Fin.ext (Nat.zero_add _)
  clear_value R
  refine ⟨sortedFrom R ⟨k.val, hk⟩, rk_sortedFrom f R hR _, ?_, ?_⟩
  · rw [← hf]
    unfold Host.topK
    dsimp only
    rw [hsl]
    exact hsort x
  · unfold Host.topK
    dsimp only
    rw [hsl]
    exact hsort (fun i => if hd : 1 < (⟨2, ![8, 1310720]⟩ : Shape).rank then iotaInDim ⟨2, ![8, 1310720]⟩ 32 ⟨1, hd⟩ i else 0#32)

/-! ### The greatest of the 3 × 3 neighbours -/

/-- A running maximum is at most a bound exactly when its start and every element are. -/
theorem foldl_max_le {ι : Type} (g : ι → EReal) (L : List ι) (v s : EReal) :
    L.foldl (fun r n => max r (g n)) v ≤ s ↔ v ≤ s ∧ ∀ n ∈ L, g n ≤ s := by
  induction L generalizing v with
  | nil => simp
  | cons a L ih => rw [List.foldl_cons, ih, max_le_iff, List.forall_mem_cons, and_assoc]

/-- An element is the greatest of its 3 × 3 neighbours, the outside counting for nothing, exactly when each of them is at most it. -/
theorem window_eq_iff (x : FVec Ideal ⟨4, ![8, 80, 128, 128]⟩ .f32) (v : (⟨0, ![]⟩ : Shape).Idx → EReal)
    (h : (⟨4, ![8, 80, 128, 128]⟩ : Shape).ReduceWindows ![1, 1, 3, 3] ![1, 1, 1, 1] ![0, 0, 1, 1] ![0, 0, 1, 1] ⟨4, ![8, 80, 128, 128]⟩)
    (hu : 0 < (⟨0, ![]⟩ : Shape).numel) (hv : ∀ i, v i = ⊥) (b : Fin 8) (c : Fin 80) (y l : Fin 128) :
    x (ix4 b c y l) = Host.reduceWindow (FloatOps.maximumf (F := Ideal) (φ := .f32)) ![1, 1, 3, 3] ![1, 1, 1, 1] ![0, 0, 1, 1] ![0, 0, 1, 1] x v h hu (ix4 b c y l)
      ↔ ∀ y' l' : Fin 128, y'.val ≤ y.val + 1 → y.val ≤ y'.val + 1 → l'.val ≤ l.val + 1 → l.val ≤ l'.val + 1 → x (ix4 b c y' l') ≤ x (ix4 b c y l) := by
  have hle : ∀ s, Host.reduceWindow (FloatOps.maximumf (F := Ideal) (φ := .f32)) ![1, 1, 3, 3] ![1, 1, 1, 1] ![0, 0, 1, 1] ![0, 0, 1, 1] x v h hu (ix4 b c y l) ≤ s
      ↔ ∀ y' l' : Fin 128, y'.val ≤ y.val + 1 → y.val ≤ y'.val + 1 → l'.val ≤ l.val + 1 → l.val ≤ l'.val + 1 → x (ix4 b c y' l') ≤ s := by
    intro s
    unfold Host.reduceWindow
    dsimp only
    refine (foldl_max_le _ _ _ s).trans ?_
    rw [hv]
    simp only [bot_le, true_and, List.mem_finRange, true_implies]
    constructor
    · intro H y' l' h1 h2 h3 h4
      have H' := H ((⟨4, ![1, 1, 3, 3]⟩ : Shape).rowMajor (ix4 0 0 (⟨y'.val + 1 - y.val, by omega⟩ : Fin 3) (⟨l'.val + 1 - l.val, by omega⟩ : Fin 3)))
      simp only [Equiv.symm_apply_apply] at H'
      rw [dif_pos (by
        intro a
        match a with
        | ⟨0, _⟩ => exact ⟨Nat.zero_le _, by show b.val * 1 + 0 - 0 < 8; omega⟩
        | ⟨1, _⟩ => exact ⟨Nat.zero_le _, by show c.val * 1 + 0 - 0 < 80; omega⟩
        | ⟨2, _⟩ => exact ⟨by show 1 ≤ y.val * 1 + (y'.val + 1 - y.val); omega, by show y.val * 1 + (y'.val + 1 - y.val) - 1 < 128; omega⟩
        | ⟨3, _⟩ => exact ⟨by show 1 ≤ l.val * 1 + (l'.val + 1 - l.val); omega, by show l.val * 1 + (l'.val + 1 - l.val) - 1 < 128; omega⟩)] at H'
      refine le_of_eq_of_le (congrArg x ?_) H'
      funext a
      match a with
      | ⟨0, _⟩ => exact Fin.ext (by show b.val = b.val * 1 + 0 - 0; omega)
      | ⟨1, _⟩ => exact Fin.ext (by show c.val = c.val * 1 + 0 - 0; omega)
      | ⟨2, _⟩ => exact Fin.ext (by show y'.val = y.val * 1 + (y'.val + 1 - y.val) - 1; omega)
      | ⟨3, _⟩ => exact Fin.ext (by show l'.val = l.val * 1 + (l'.val + 1 - l.val) - 1; omega)
    · intro H n
      split
      · rename_i hin
        let w := (⟨4, ![1, 1, 3, 3]⟩ : Shape).rowMajor.symm n
        have w0 : (w 0).val < 1 := (w 0).isLt
        have w1 : (w 1).val < 1 := (w 1).isLt
        have w2 : (w 2).val < 3 := (w 2).isLt
        have w3 : (w 3).val < 3 := (w 3).isLt
        have i2 : 1 ≤ y.val * 1 + (w 2).val ∧ y.val * 1 + (w 2).val - 1 < 128 := hin 2
        have i3 : 1 ≤ l.val * 1 + (w 3).val ∧ l.val * 1 + (w 3).val - 1 < 128 := hin 3
        refine le_of_eq_of_le (congrArg x ?_) (H ⟨y.val * 1 + (w 2).val - 1, i2.2⟩ ⟨l.val * 1 + (w 3).val - 1, i3.2⟩
          (by dsimp only; omega) (by dsimp only; omega) (by dsimp only; omega) (by dsimp only; omega))
        funext a
        match a with
        | ⟨0, _⟩ => exact Fin.ext (by show b.val * 1 + (w 0).val - 0 = b.val; omega)
        | ⟨1, _⟩ => exact Fin.ext (by show c.val * 1 + (w 1).val - 0 = c.val; omega)
        | ⟨2, _⟩ => exact Fin.ext rfl
        | ⟨3, _⟩ => exact Fin.ext rfl
      · exact bot_le
  constructor
  · intro he
    exact (hle _).mp he.ge
  · intro H
    refine le_antisymm ?_ ((hle _).mpr H)
    exact (hle _).mp le_rfl y l (by omega) (by omega) (by omega) (by omega)

end Cert.Proof.RefOps

end
-- ==== Proof.Scores.lean ====
module

public import proofs.«01_k».proof.Proof.IdealCounter
public import proofs.«01_k».proof.Proof.RefOps

@[expose] public section

set_option maxRecDepth 16384

noncomputable section

namespace Cert.Proof.Scores

open Idealize.ShloMosaic

/-! ### The scores of an image, as reals -/

/-- The logistic function of an extended real, as a real. -/
def sig (a : EReal) : ℝ := (Ideal.logistic a).toReal

/-- It lies between 0 and 1. -/
theorem logistic_eq (a : EReal) : Ideal.logistic a = ((sig a : ℝ) : EReal) ∧ 0 ≤ sig a ∧ sig a ≤ 1 := by
  unfold sig
  induction a using EReal.rec with
  | bot => simp
  | top => simp
  | coe r =>
    rw [Ideal.logistic_coe, EReal.toReal_coe]
    have h := Real.exp_pos (-r)
    refine ⟨rfl, by positivity, ?_⟩
    exact inv_le_one_of_one_le₀ (by linarith)

/-- The logistic function of an extended real is a real number. -/
theorem coe_sig (a : EReal) : Ideal.logistic a = ((sig a : ℝ) : EReal) := (logistic_eq a).1
/-- The logistic function is not negative. -/
theorem sig_nonneg (a : EReal) : 0 ≤ sig a := (logistic_eq a).2.1
/-- The logistic function is at most one. -/
theorem sig_le_one (a : EReal) : sig a ≤ 1 := (logistic_eq a).2.2

/-- The score at class `c`, row `y`, column `l` is the greatest of its 3 × 3 neighbours. -/
def Peak (X : Fin 80 → Fin 128 → Fin 128 → EReal) (c : Fin 80) (y l : Fin 128) : Prop :=
  ∀ y' l' : Fin 128, y'.val ≤ y.val + 1 → y.val ≤ y'.val + 1 → l'.val ≤ l.val + 1 → l.val ≤ l'.val + 1 → sig (X c y' l') ≤ sig (X c y l)

open Classical in
/-- The score kept where it is a peak, else 0. -/
def score (X : Fin 80 → Fin 128 → Fin 128 → EReal) (c : Fin 80) (y l : Fin 128) : ℝ :=
  if Peak X c y l then sig (X c y l) else 0

/-- A score is not negative. -/
theorem score_nonneg (X c y l) : 0 ≤ score X c y l := by
  unfold score; split
  · exact sig_nonneg _
  · exact le_rfl

/-- A score is at most one. -/
theorem score_le_one (X c y l) : score X c y l ≤ 1 := by
  unfold score; split
  · exact sig_le_one _
  · exact zero_le_one

/-- A value and its two neighbours on a line, 0 past its ends, are at most `a` exactly when every neighbour is. -/
theorem near_iff (g : Fin 128 → EReal) {a : EReal} (ha : 0 ≤ a) (l : Fin 128) :
    max (max (g l) (if h : l.val < 1 then 0 else g ⟨l.val - 1, by omega⟩)) (if h : l.val < 127 then g ⟨1 + l.val, by omega⟩ else 0) ≤ a
      ↔ ∀ l' : Fin 128, l'.val ≤ l.val + 1 → l.val ≤ l'.val + 1 → g l' ≤ a := by
  rw [max_le_iff, max_le_iff]
  constructor
  · rintro ⟨⟨h1, h2⟩, h3⟩ l' h4 h5
    rcases lt_trichotomy l'.val l.val with h | h | h
    · rw [dif_neg (by omega)] at h2
      exact le_of_eq_of_le (congrArg g (Fin.ext (by dsimp only; omega))) h2
    · exact le_of_eq_of_le (congrArg g (Fin.ext h)) h1
    · rw [dif_pos (by omega)] at h3
      exact le_of_eq_of_le (congrArg g (Fin.ext (by dsimp only; omega))) h3
  · intro H
    refine ⟨⟨H l (by omega) (by omega), ?_⟩, ?_⟩
    · split
      · exact ha
      · exact H _ (by dsimp only; omega) (by dsimp only; omega)
    · split
      · exact H _ (by dsimp only; omega) (by dsimp only; omega)
      · exact ha

/-- The greatest of a value and its neighbours in a row. -/
abbrev across (L : Fin 128 → Fin 128 → EReal) (y l : Fin 128) : EReal :=
  max (max (L y l) (if h : l.val < 1 then 0 else L y ⟨l.val - 1, by omega⟩)) (if h : l.val < 127 then L y ⟨1 + l.val, by omega⟩ else 0)

/-- A value equals the greatest of its 3 × 3 neighbours, taken along the rows and then down the columns with 0 outside, exactly
    when each of them is at most it. -/
theorem eq_max_iff (L : Fin 128 → Fin 128 → EReal) (hL : ∀ y l, 0 ≤ L y l) (y l : Fin 128) :
    L y l = max (max (across L y l) (if h : y.val < 1 then 0 else across L ⟨y.val - 1, by omega⟩ l))
        (if h : y.val < 127 then across L ⟨1 + y.val, by omega⟩ l else 0)
      ↔ ∀ y' l' : Fin 128, y'.val ≤ y.val + 1 → y.val ≤ y'.val + 1 → l'.val ≤ l.val + 1 → l.val ≤ l'.val + 1 → L y' l' ≤ L y l := by
  have h1 := near_iff (fun y => across L y l) (hL y l) y
  have h2 := fun y' => near_iff (fun l => L y' l) (hL y l) l
  constructor
  · intro he y' l' h3 h4 h5 h6
    exact (h2 y').mp (h1.mp he.ge y' h3 h4) l' h5 h6
  · intro H
    refine le_antisymm ?_ (h1.mpr fun y' h3 h4 => (h2 y').mpr fun l' h5 h6 => H y' l' h3 h4 h5 h6)
    exact (le_max_left _ _).trans ((le_max_left _ _).trans ((le_max_left _ _).trans (le_max_left _ _)))

section Kernel
open Cert.KernelIdeal Cert.KernelIdeal.Gen

/-- The heat maps of a block. -/
def heat (x : Vec Ideal S1x84x128x128 .f32) (c : Fin 80) (y l : Fin 128) : EReal := x (ix4 0 ⟨c.val, by omega⟩ y l)

/-- The kernel's scores are these. -/
theorem pay9_apply (x : Vec Ideal S1x84x128x128 .f32) (c : Fin 80) (y l : Fin 128) :
    k0_pay9 (F := Ideal) x (ix3 c y l) = ((score (heat x) c y l : ℝ) : EReal) := by
  have hpos : ∀ a : EReal, (0 : EReal) ≤ Ideal.logistic a := fun a => by
    rw [coe_sig]; exact EReal.coe_nonneg.mpr (sig_nonneg a)
  unfold score Peak
  rw [apply_ite (fun r : ℝ => (r : EReal)), EReal.coe_zero, ← coe_sig]
  simp only [← EReal.coe_le_coe_iff, ← coe_sig]
  unfold heat
  pointwise [k0_pay9, k0_pay8]
  refine if_congr ?_ rfl rfl
  exact eq_max_iff (fun y l => Ideal.logistic (x (ix4 0 ⟨c.val, by omega⟩ y l))) (fun _ _ => hpos _) y l

end Kernel

end Cert.Proof.Scores

end
-- ==== Proof.Slots.lean ====
module

public import proofs.«01_k».proof.Proof.Rank

@[expose] public section

namespace Cert.Proof.Slots

open Finset

/-! An array of rows and lanes, read row by row: position `128 * r + l`. -/

/-- The position of row `r`, lane `l`. -/
abbrev fl (r : Fin 10240) (l : Fin 128) : Fin 1310720 := ⟨128 * r.val + l.val, by omega⟩
/-- The row of a position. -/
abbrev row (e : Fin 1310720) : Fin 10240 := ⟨e.val / 128, by omega⟩
/-- The lane of a position. -/
abbrev lane (e : Fin 1310720) : Fin 128 := ⟨e.val % 128, by omega⟩

/-- A position is the one at its row and lane. -/
theorem fl_row_lane (e : Fin 1310720) : fl (row e) (lane e) = e := Fin.ext (by dsimp only; omega)
/-- The position at a row and a lane has that row. -/
theorem row_fl (r : Fin 10240) (l : Fin 128) : row (fl r l) = r := Fin.ext (by dsimp only; omega)
/-- The position at a row and a lane has that lane. -/
theorem lane_fl (r : Fin 10240) (l : Fin 128) : lane (fl r l) = l := Fin.ext (by dsimp only; omega)

/-- Positions are the pairs of a row and a lane. -/
def flE : Fin 10240 × Fin 128 ≃ Fin 1310720 where
  toFun p := fl p.1 p.2
  invFun e := (row e, lane e)
  left_inv p := Prod.ext (row_fl p.1 p.2) (lane_fl p.1 p.2)
  right_inv e := fl_row_lane e

variable (I : Fin 10240 → Fin 128 → Prop)

open Classical in
/-- How many lanes of row `r` are marked. -/
noncomputable def cnt (r : Fin 10240) : ℕ := (univ.filter fun l => I r l).card
open Classical in
/-- How many lanes of row `r` before `l` are marked. -/
noncomputable def excl (r : Fin 10240) (l : Fin 128) : ℕ := (univ.filter fun l' => l' < l ∧ I r l').card
/-- How many marks the rows before `r` hold. -/
noncomputable def base (r : Fin 10240) : ℕ := ∑ r' ∈ univ.filter (fun r' => r' < r), cnt I r'
/-- How many marks there are. -/
noncomputable def total : ℕ := ∑ r, cnt I r
/-- The place of a mark among the marks, row by row. -/
noncomputable def slot (r : Fin 10240) (l : Fin 128) : ℕ := base I r + excl I r l

variable {I}

/-- Fewer marks come before a mark in its row than the row has. -/
theorem excl_lt_cnt {r : Fin 10240} {l : Fin 128} (h : I r l) : excl I r l < cnt I r := by
  classical
  unfold excl cnt
  refine card_lt_card (ssubset_iff_of_subset ?_ |>.mpr ⟨l, by simpa using h, by simp⟩)
  intro a ha
  simp only [mem_filter, mem_univ, true_and] at ha ⊢
  exact ha.2

/-- Of two marks in a row fewer come before the left one. -/
theorem excl_lt {r : Fin 10240} {l l' : Fin 128} (h : I r l) (hl : l < l') : excl I r l < excl I r l' := by
  classical
  unfold excl
  refine card_lt_card (ssubset_iff_of_subset ?_ |>.mpr ⟨l, by simpa using ⟨hl, h⟩, by simp⟩)
  intro a ha
  simp only [mem_filter, mem_univ, true_and] at ha ⊢
  exact ⟨ha.1.trans hl, ha.2⟩

/-- Different marks of a row have different numbers of marks before them. -/
theorem excl_inj {r : Fin 10240} {l l' : Fin 128} (h : I r l) (h' : I r l') (he : excl I r l = excl I r l') : l = l' := by
  rcases lt_trichotomy l l' with hl | hl | hl
  · exact absurd he (excl_lt h hl).ne
  · exact hl
  · exact absurd he (excl_lt h' hl).ne'

/-- The marks before a row and its own are at most those before any later row. -/
theorem base_add_cnt_le {r r' : Fin 10240} (h : r < r') : base I r + cnt I r ≤ base I r' := by
  unfold base
  rw [add_comm, ← sum_insert (s := univ.filter fun r'' => r'' < r) (a := r) (by simp)]
  refine sum_le_sum_of_subset fun a ha => ?_
  simp only [mem_insert, mem_filter, mem_univ, true_and] at ha ⊢
  rcases ha with rfl | ha
  · exact h
  · exact ha.trans h

/-- The marks before a row and its own are at most all the marks. -/
theorem base_add_cnt_le_total (r : Fin 10240) : base I r + cnt I r ≤ total I := by
  unfold base total
  rw [add_comm, ← sum_insert (s := univ.filter fun r'' => r'' < r) (a := r) (by simp)]
  exact sum_le_sum_of_subset (subset_univ _)

/-- A row and a number below its count are told by their place. -/
theorem place_inj {r r' : Fin 10240} {t t' : ℕ} (h : t < cnt I r) (h' : t' < cnt I r') (he : base I r + t = base I r' + t') :
    r = r' ∧ t = t' := by
  rcases lt_trichotomy r r' with hr | hr | hr
  · have := base_add_cnt_le (I := I) hr; omega
  · subst hr; exact ⟨rfl, by omega⟩
  · have := base_add_cnt_le (I := I) hr; omega

/-- A slot is below the number of marks. -/
theorem slot_lt_total {r : Fin 10240} {l : Fin 128} (h : I r l) : slot I r l < total I := by
  have := excl_lt_cnt h
  have := base_add_cnt_le_total (I := I) r
  unfold slot; omega

/-- Marks are placed in order. -/
theorem slot_lt {r r' : Fin 10240} {l l' : Fin 128} (h : I r l) (hlt : fl r l < fl r' l') : slot I r l < slot I r' l' := by
  have hlt' : 128 * r.val + l.val < 128 * r'.val + l'.val := hlt
  rcases lt_trichotomy r r' with hr | hr | hr
  · have := base_add_cnt_le (I := I) hr
    have := excl_lt_cnt h
    unfold slot; omega
  · subst hr
    have := excl_lt h (show l < l' from Fin.lt_def.mpr (by omega))
    unfold slot; omega
  · have : r'.val < r.val := hr
    omega

/-- As many marks as positions marked. -/
theorem total_eq_card : open Classical in total I = (univ.filter fun p : Fin 10240 × Fin 128 => I p.1 p.2).card := by
  classical
  unfold total cnt
  simp only [card_filter]
  rw [Fintype.sum_prod_type]

/-- Every place below the number of marks is a mark's. -/
theorem exists_slot {k : ℕ} (hk : k < total I) : ∃ r l, I r l ∧ slot I r l = k := by
  classical
  have hmaps : Set.MapsTo (fun p : Fin 10240 × Fin 128 => slot I p.1 p.2)
      (univ.filter fun p : Fin 10240 × Fin 128 => I p.1 p.2) (range (total I)) := by
    intro p hp
    simp only [coe_filter, mem_univ, true_and, Set.mem_setOf_eq] at hp
    simpa using slot_lt_total hp
  have hinj : Set.InjOn (fun p : Fin 10240 × Fin 128 => slot I p.1 p.2)
      (univ.filter fun p : Fin 10240 × Fin 128 => I p.1 p.2) := by
    rintro ⟨r, l⟩ hp ⟨r', l'⟩ hp' he
    simp only [coe_filter, mem_univ, true_and, Set.mem_setOf_eq] at hp hp'
    obtain ⟨hr, ht⟩ := place_inj (excl_lt_cnt hp) (excl_lt_cnt hp') he
    subst hr
    exact Prod.ext rfl (excl_inj hp hp' ht)
  have hsurj := surjOn_of_injOn_of_card_le _ hmaps hinj (by rw [card_range, total_eq_card])
  obtain ⟨⟨r, l⟩, hp, he⟩ := hsurj (show k ∈ (range (total I) : Set ℕ) by simpa using hk)
  simp only [coe_filter, mem_univ, true_and, Set.mem_setOf_eq] at hp
  exact ⟨r, l, hp, he⟩

open Classical in
/-- Summed over four sweeps `t` and all rows, a value at the row and sweep whose place is `k` is the value at `k`'s mark. -/
theorem sum_place (hcnt : ∀ r, cnt I r ≤ 4) {r : Fin 10240} {l : Fin 128} (h : I r l) (f : Fin 4 → Fin 10240 → EReal) {v : EReal}
    (hv : ∀ t : Fin 4, t.val = excl I r l → f t r = v) :
    ∑ t : Fin 4, ∑ r' : Fin 10240, (if base I r' + t.val = slot I r l ∧ t.val < cnt I r' then f t r' else 0) = v := by
  have ht := excl_lt_cnt h
  have h4 := hcnt r
  rw [sum_eq_single (⟨excl I r l, by omega⟩ : Fin 4), sum_eq_single r]
  · rw [if_pos ⟨rfl, ht⟩]; exact hv _ rfl
  · intro r' _ hne
    refine if_neg fun hc => hne ?_
    exact (place_inj hc.2 ht hc.1).1
  · intro hn; exact absurd (mem_univ _) hn
  · intro t _ hne
    refine sum_eq_zero fun r' _ => if_neg fun hc => hne ?_
    exact Fin.ext (place_inj hc.2 ht hc.1).2
  · intro hn; exact absurd (mem_univ _) hn

open Classical in
/-- Summed over a row's lanes, a value at the marked lane that has `t` marked lanes before it is the value at that lane. -/
theorem sum_lane {r : Fin 10240} {l : Fin 128} (h : I r l) (g : Fin 128 → EReal) {t : ℕ} (ht : t = excl I r l) :
    ∑ l' : Fin 128, (if excl I r l' = t ∧ I r l' then g l' else 0) = g l := by
  subst ht
  rw [sum_eq_single l]
  · rw [if_pos ⟨rfl, h⟩]
  · intro l' _ hne
    exact if_neg fun hc => hne (excl_inj hc.2 h hc.1)
  · intro hn; exact absurd (mem_univ _) hn

end Cert.Proof.Slots

end
-- ==== Proof.RefValue.lean ====
module

public import proofs.«01_k».proof.Proof.RefRun
public import proofs.«01_k».proof.Proof.Scores
public import proofs.«01_k».proof.Proof.Slots

@[expose] public section

set_option maxRecDepth 16384

noncomputable section

namespace Cert.Proof.RefValue

open Idealize.ShloMosaic Cert.Proof.Rank Cert.Proof.Scores Cert.Proof.Slots

/-- The score at a row (class times 128 plus y) and a lane. -/
def rows (X : Fin 80 → Fin 128 → Fin 128 → EReal) (r : Fin 10240) (l : Fin 128) : ℝ :=
  score X ⟨r.val / 128, by omega⟩ ⟨r.val % 128, by omega⟩ l

/-- The score at a position of the image's 80 maps laid end to end. -/
def flat (X : Fin 80 → Fin 128 → Fin 128 → EReal) (e : Fin 1310720) : ℝ := rows X (row e) (lane e)

/-- Minus infinity's pattern. -/
theorem ofBits_ninf : Ideal.ofBits .f32 0xFF800000#32 = ⊥ := by
  simp [Ideal.ofBits, Ideal.ieee]

/-- A logistic score times "it equals the greatest of its 3 × 3 neighbours" is the score kept where it is a peak. -/
theorem keep_apply (X : Fin 80 → Fin 128 → Fin 128 → EReal) (b : Fin 8) (x : FVec Ideal ⟨4, ![8, 80, 128, 128]⟩ .f32)
    (hx : ∀ c y l, x (ix4 b c y l) = Ideal.logistic (X c y l)) (v : (⟨0, ![]⟩ : Shape).Idx → EReal)
    (h : (⟨4, ![8, 80, 128, 128]⟩ : Shape).ReduceWindows ![1, 1, 3, 3] ![1, 1, 1, 1] ![0, 0, 1, 1] ![0, 0, 1, 1] ⟨4, ![8, 80, 128, 128]⟩)
    (hu : 0 < (⟨0, ![]⟩ : Shape).numel) (hv : ∀ i, v i = ⊥) (c : Fin 80) (y l : Fin 128) :
    mulf x (uitofp .f32 (cmpf .oeq x (Host.reduceWindow (FloatOps.maximumf (F := Ideal) (φ := .f32)) ![1, 1, 3, 3] ![1, 1, 1, 1] ![0, 0, 1, 1]
      ![0, 0, 1, 1] x v h hu))) (ix4 b c y l) = ((score X c y l : ℝ) : EReal) := by
  have hw := RefOps.window_eq_iff x v h hu hv b c y l
  simp only [hx] at hw
  have hpeak : (∀ y' l' : Fin 128, y'.val ≤ y.val + 1 → y.val ≤ y'.val + 1 → l'.val ≤ l.val + 1 → l.val ≤ l'.val + 1 →
      Ideal.logistic (X c y' l') ≤ Ideal.logistic (X c y l)) ↔ Peak X c y l := by
    unfold Peak
    simp only [coe_sig, EReal.coe_le_coe_iff]
  rw [hpeak] at hw
  rw [show mulf x (uitofp .f32 (cmpf .oeq x (Host.reduceWindow (FloatOps.maximumf (F := Ideal) (φ := .f32)) ![1, 1, 3, 3] ![1, 1, 1, 1] ![0, 0, 1, 1]
      ![0, 0, 1, 1] x v h hu))) (ix4 b c y l) = x (ix4 b c y l) * (((Ideal.cmp .oeq (x (ix4 b c y l)) (Host.reduceWindow (FloatOps.maximumf (F := Ideal) (φ := .f32)) ![1, 1, 3, 3] ![1, 1, 1, 1] ![0, 0, 1, 1]
      ![0, 0, 1, 1] x v h hu (ix4 b c y l))).toNat : ℝ) : EReal) from rfl, hx]
  generalize Host.reduceWindow (FloatOps.maximumf (F := Ideal) (φ := .f32)) ![1, 1, 3, 3] ![1, 1, 1, 1] ![0, 0, 1, 1]
      ![0, 0, 1, 1] x v h hu (ix4 b c y l) = w at hw
  unfold score
  by_cases hp : Peak X c y l
  · rw [if_pos hp, ← hw.mpr hp, ← coe_sig]
    simp [Ideal.cmp]
  · rw [if_neg hp]
    have : ¬ Ideal.logistic (X c y l) = w := fun h => hp (hw.mp h)
    simp [Ideal.cmp, this]

section Ref
open Cert.ReferenceIdeal Cert.ReferenceIdeal.Gen Cert.ReferenceIdeal.Read

variable (x0 : (⟨S8x84x128x128, .f32⟩ : BufTy).Contents (Elt Ideal))

/-- The heat maps of image `b`. -/
def heat8 (x0 : FVec Ideal ⟨4, ![8, 84, 128, 128]⟩ .f32) (b : Fin 8) (c : Fin 80) (y l : Fin 128) : EReal :=
  x0 (ix4 b ⟨c.val, by omega⟩ y l)

/-- The reference's scores before suppression. -/
theorem v8_apply (b : Fin 8) (c : Fin 80) (y l : Fin 128) :
    val_main_v8 (F := Ideal) x0 (ix4 b c y l) = Ideal.logistic (heat8 x0 b c y l) := by
  pointwise [val_main_v8, val_main_v7, val_main_v6, val_main_v5, val_main_v4, val_main_v3, val_main_v0, val_main_cst, val_main_cst_0, heat8]
  rfl

/-- The reference's scores of the local maxima. -/
theorem v13_apply (b : Fin 8) (c : Fin 80) (y l : Fin 128) :
    val_main_v13 (F := Ideal) x0 (ix4 b c y l) = ((score (heat8 x0 b) c y l : ℝ) : EReal) := by
  refine keep_apply (heat8 x0 b) b _ (v8_apply x0 b) _ _ _ (fun i => ?_) c y l
  pointwise [val_main_v9, val_main_cst_1]
  exact ofBits_ninf

/-- These in the order of positions. -/
theorem v14_apply (b : Fin 8) (e : Fin 1310720) :
    val_main_v14 (F := Ideal) x0 (ix2 b e) = ((flat (heat8 x0 b) e : ℝ) : EReal) := by
  pointwise [val_main_v14]
  rw [v13_apply]
  unfold flat rows
  congr 2 <;> simp only [Fin.mk.injEq] <;> omega

end Ref
end Cert.Proof.RefValue

end
-- ==== Proof.RefRead.lean ====
module

public import proofs.«01_k».proof.Proof.RefValue
public import Idealize.ShloMosaic.Lib.Routing.Words

@[expose] public section

set_option maxRecDepth 16384

noncomputable section

namespace Cert.Proof.RefValue

open Idealize.ShloMosaic Cert.Proof.Rank Cert.Proof.Scores Cert.Proof.Slots

/-! What the reference returns for one image: the entry of the k-th ranked position. -/

/-- The confidence threshold's float, as a real number. -/
def thr : ℝ := 13421773 / 134217728

/-- The threshold's pattern. -/
theorem ofBits_thr : Ideal.ofBits .f32 0x3DCCCCCD#32 = ((thr : ℝ) : EReal) := by
  simp [Ideal.ofBits, Ideal.ieee, thr, -EReal.coe_mul]; norm_num

/-- The six numbers reported for a position: score, class, column plus its offset, line plus its offset, and the two sizes. -/
def entry (im : Fin 84 → Fin 128 → Fin 128 → EReal) (s : ℝ) (r : Fin 10240) (l : Fin 128) : Fin 6 → EReal :=
  ![(s : EReal), (((r.val / 128 : ℕ) : ℝ) : EReal), ((l.val : ℝ) : EReal) + im 80 ⟨r.val % 128, by omega⟩ l,
    (((r.val % 128 : ℕ) : ℝ) : EReal) + im 81 ⟨r.val % 128, by omega⟩ l, im 82 ⟨r.val % 128, by omega⟩ l, im 83 ⟨r.val % 128, by omega⟩ l]

/-- Two indices of a rank-3 array with equal coordinates are equal. -/
theorem idx3_eq {n0 n1 n2 : ℕ} (i : (⟨3, ![n0, n1, n2]⟩ : Shape).Idx) (a : Fin n0) (b : Fin n1) (c : Fin n2)
    (h0 : (i 0).val = a.val) (h1 : (i 1).val = b.val) (h2 : (i 2).val = c.val) : i = ix3 a b c := by
  funext d
  match d with
  | ⟨0, _⟩ => exact Fin.ext h0
  | ⟨1, _⟩ => exact Fin.ext h1
  | ⟨2, _⟩ => exact Fin.ext h2

/-- A pair of positions written in base 100 reads back as the pair: the high part. -/
theorem hi100 (b k : ℕ) (hk : k < 100) : (b * 100 + k) / 100 = b := by omega
/-- The low part. -/
theorem lo100 (b k : ℕ) (hk : k < 100) : (b * 100 + k) % 100 = k := by omega

/-- The same two with a trailing axis of one. -/
theorem hi100' (b k : ℕ) (hk : k < 100) : ((b * 100 + k) * 1 + 0) / 100 = b := by omega
/-- The rank read off an index over images and ranks. -/
theorem lo100' (b k : ℕ) (hk : k < 100) : ((b * 100 + k) * 1 + 0) % 100 = k := by omega

/-- A small natural number, written as a 32-bit word and converted, is itself. -/
theorem sitofp_ofNat (n : ℕ) (h : n < 2 ^ 31) :
    (FloatOps.sitofp (F := Ideal) FTy.f32 (BitVec.ofNat 32 n) : EReal) = ((n : ℝ) : EReal) := by
  show (((BitVec.ofNat 32 n).toInt : ℝ) : EReal) = _
  rw [BitVec.toInt_eq_toNat_of_lt (by rw [BitVec.toNat_ofNat, Nat.mod_eq_of_lt] <;> omega), BitVec.toNat_ofNat,
    Nat.mod_eq_of_lt (by omega)]
  simp

section Ref
open Cert.ReferenceIdeal Cert.ReferenceIdeal.Gen Cert.ReferenceIdeal.Read

/-- The gather's dimension numbers. -/
abbrev gd := gather_S8x2x16384_S8x100x1_S8x2x100_1_2_0_0_2_2_121

/-- One element of the gather: lane `idx b k` (clamped to the row) of channel `c` of image `b`. -/
theorem gather_apply (x : FVec Ideal S8x2x16384 .f32) (idx : IVec S8x100x1 32) (b : Fin 8) (c : Fin 2) (k : Fin 100) :
    Host.gather gd x idx (ix3 b c k) = x (ix3 b c ⟨min (idx (ix3 b k 0)).toInt.toNat 16383, by omega⟩) := by
  have hb : gd.batchCoord (ix3 b c k) 0 = b.val := by
    unfold GatherDims.batchCoord
    rw [dif_pos (show (0 : Fin 3) ∈ gd.operandBatchingDims from List.mem_singleton.mpr rfl)]
    rfl
  have hs1 : gd.start (ix3 b c k) idx 1 = 0 := by
    unfold GatherDims.start
    rw [dif_neg (show (1 : Fin 3) ∉ gd.startIndexMap from fun h => absurd (List.mem_singleton.mp h) (by decide))]
  have hb1 : gd.batchCoord (ix3 b c k) 1 = 0 :=
    GatherDims.batchCoord_eq_zero _ _ _ (fun h => absurd (List.mem_singleton.mp h) (by decide))
  have hb2 : gd.batchCoord (ix3 b c k) 2 = 0 :=
    GatherDims.batchCoord_eq_zero _ _ _ (fun h => absurd (List.mem_singleton.mp h) (by decide))
  have hs0 : gd.start (ix3 b c k) idx 0 = 0 := GatherDims.start_batching _ _ _ _ (List.mem_singleton.mpr rfl)
  have ho0 : gd.offCoord (ix3 b c k) 0 = 0 :=
    GatherDims.offCoord_eq_zero _ _ _ (fun h => ((GatherDims.mem_sKept _ _).mp h).2 (List.mem_singleton.mpr rfl))
  have ho2 : gd.offCoord (ix3 b c k) 2 = 0 :=
    GatherDims.offCoord_eq_zero _ _ _ (fun h => ((GatherDims.mem_sKept _ _).mp h).1 (List.mem_singleton.mpr rfl))
  have ho1 : gd.offCoord (ix3 b c k) 1 = c.val := rfl
  have hs2 : gd.start (ix3 b c k) idx 2 = min (idx (ix3 b k 0)).toInt.toNat 16383 := by
    unfold GatherDims.start
    rw [dif_pos (show (2 : Fin 3) ∈ gd.startIndexMap from List.mem_singleton.mpr rfl)]
    have hsi : gd.siIdx (ix3 b c k) ⟨List.idxOf (2 : Fin 3) gd.startIndexMap,
        List.idxOf_lt_length_iff.2 (List.mem_singleton.mpr rfl)⟩ = ix3 b k 0 := by
      funext d; refine Fin.ext ?_
      match d with
      | ⟨0, _⟩ => rfl
      | ⟨1, _⟩ => rfl
      | ⟨2, _⟩ => rfl
    rw [hsi]
    rfl
  unfold Host.gather
  refine congrArg x ?_
  funext a
  refine Fin.ext ?_
  match a with
  | ⟨0, _⟩ => exact (congrArg₂ (· + ·) (congrArg₂ (· + ·) hs0 hb) ho0).trans (by simp)
  | ⟨1, _⟩ => exact (congrArg₂ (· + ·) (congrArg₂ (· + ·) hs1 hb1) ho1).trans (by simp)
  | ⟨2, _⟩ => exact (congrArg₂ (· + ·) (congrArg₂ (· + ·) hs2 hb2) ho2).trans (by simp)

/-- The same, the lane known. -/
theorem gather_at (x : FVec Ideal S8x2x16384 .f32) (idx : IVec S8x100x1 32) (b : Fin 8) (c : Fin 2) (k : Fin 100) (n : ℕ)
    (hn : (idx (ix3 b k 0)).toInt.toNat = n) (h : n < 16384) : Host.gather gd x idx (ix3 b c k) = x (ix3 b c ⟨n, h⟩) := by
  subst hn
  refine (gather_apply x idx b c k).trans (congrArg x (congrArg (ix3 b c) (Fin.ext ?_)))
  show min _ _ = (idx (ix3 b k 0)).toInt.toNat
  omega

/-- Six columns side by side, read at a column. -/
theorem columns_apply (y0 y1 y2 y3 y4 y5 : FVec Ideal S8x100x1 .f32) (h : Shape.Concatenates [S8x100x1, S8x100x1, S8x100x1, S8x100x1, S8x100x1, S8x100x1] S8x100x6 2) (b : Fin 8) (k : Fin 100) (f : Fin 6) :
    (concatenate S8x100x6 2 [⟨S8x100x1, y0⟩, ⟨S8x100x1, y1⟩, ⟨S8x100x1, y2⟩, ⟨S8x100x1, y3⟩, ⟨S8x100x1, y4⟩, ⟨S8x100x1, y5⟩] h (ix3 b k f) : EReal)
      = ![y0 (ix3 b k 0), y1 (ix3 b k 0), y2 (ix3 b k 0), y3 (ix3 b k 0), y4 (ix3 b k 0), y5 (ix3 b k 0)] f := by
  pointwise
  match f with
  | ⟨0, _⟩ => rfl
  | ⟨1, _⟩ => rfl
  | ⟨2, _⟩ => rfl
  | ⟨3, _⟩ => rfl
  | ⟨4, _⟩ => rfl
  | ⟨5, _⟩ => rfl

variable (x0 : (⟨S8x84x128x128, .f32⟩ : BufTy).Contents (Elt Ideal))

/-- Image `b`, all 84 channels. -/
def image (b : Fin 8) (ch : Fin 84) (y l : Fin 128) : EReal := x0 (ix4 b ch y l)

/-- The k-th index, as a word, is the position ranked k-th; its value is the score there. -/
theorem top (b : Fin 8) (k : Fin 100) : ∃ e : Fin 1310720, rk (flat (heat8 x0 b)) e = k.val ∧
    val_main_values (F := Ideal) x0 (ix2 b k) = ((flat (heat8 x0 b) e : ℝ) : EReal) ∧
    val_main_indices (F := Ideal) x0 (ix2 b k) = BitVec.ofNat 32 e.val :=
  RefOps.topK_apply (val_main_v14 (F := Ideal) x0) sliceFits_S8x1310720_S8x100 b (flat (heat8 x0 b)) (v14_apply x0 b) k

section At
variable (b : Fin 8) (k : Fin 100) (e : Fin 1310720) (he : val_main_indices (F := Ideal) x0 (ix2 b k) = BitVec.ofNat 32 e.val)
include he

/-- The class of the position ranked k-th. -/
theorem v16_at : val_main_v46 (F := Ideal) x0 (ix3 b k 0) = ((((row e).val / 128 : ℕ) : ℝ) : EReal) := by
  rw [val_main_v46_apply, val_main_v44_apply, val_main_v16_apply, val_main_v15_apply, val_main_c_apply]
  refine Eq.trans (congrArg (fun w : BitVec 32 => (FloatOps.sitofp (F := Ideal) FTy.f32 (IntOp.divsi ArithUnit.host w 16384#32) : EReal)) he) ?_
  dsimp only
  rw [Routing.divsi_word _ (by omega) (by omega) (by omega), sitofp_ofNat _ (by omega)]
  congr 2
  show (e.val / 16384 : ℕ) = ((row e).val / 128 : ℕ)
  simp only [row]
  omega

/-- Its index within its channel, as a word. -/
theorem v18_at : val_main_v18 (F := Ideal) x0 (ix2 b k) = BitVec.ofNat 32 (e.val % 16384) := by
  rw [val_main_v18_apply, val_main_v17_apply, val_main_c_2_apply, he]
  exact Routing.remsi_word _ (by omega) (by omega) (by omega)

/-- Its lane, as a number. -/
theorem v24_at : val_main_v24 (F := Ideal) x0 (ix2 b k) = (((lane e).val : ℝ) : EReal) := by
  rw [val_main_v24_apply, val_main_v23_apply, val_main_v22_apply, val_main_c_4_apply, v18_at x0 b k e he,
    Routing.remsi_word _ (by omega) (by omega) (by omega)]
  refine (sitofp_ofNat _ (by omega)).trans ?_
  congr 2
  simp only [lane]
  omega

/-- Its image row, as a number. -/
theorem v21_at : val_main_v21 (F := Ideal) x0 (ix2 b k) = ((((row e).val % 128 : ℕ) : ℝ) : EReal) := by
  rw [val_main_v21_apply, val_main_v20_apply, val_main_v19_apply, val_main_c_3_apply, v18_at x0 b k e he,
    Routing.divsi_word _ (by omega) (by omega) (by omega)]
  refine (sitofp_ofNat _ (by omega)).trans ?_
  congr 2
  show (e.val % 16384 / 128 : ℕ) = ((row e).val % 128 : ℕ)
  simp only [row]
  omega

/-- The index the take along the axis reads at: in range, so never moved. -/
theorem taken (w : BitVec 32) (hw : w = BitVec.ofNat 32 (e.val % 16384)) :
    (Scalar.select (IntOp.cmpi .slt w 0#32) (IntOp.addi w 16384#32) w).toInt.toNat = e.val % 16384 := by
  have ht : w.toInt = ((e.val % 16384 : ℕ) : ℤ) := by
    rw [hw, BitVec.toInt_eq_toNat_of_lt (by rw [BitVec.toNat_ofNat, Nat.mod_eq_of_lt] <;> omega), BitVec.toNat_ofNat,
      Nat.mod_eq_of_lt (by omega)]
  have hs : IntOp.cmpi .slt w 0#32 = 0#1 := by
    unfold IntOp.cmpi
    have : ¬ ((e.val % 16384 : ℕ) : ℤ) < (0#32 : BitVec 32).toInt := by
      rw [BitVec.toInt_zero]; omega
    simp only [BitVec.slt, ht, this, decide_false, BitVec.ofBool_false]
    rfl
  rw [hs]
  show w.toInt.toNat = _
  rw [ht]; exact Int.toNat_natCast _

/-- The index with which the offsets are gathered. -/
theorem idx0_at : (val_main_call0_v5 (F := Ideal) x0 (ix3 b k 0)).toInt.toNat = e.val % 16384 := by
  rw [val_main_call0_v5_apply, val_main_call0_v4_apply, val_main_call0_v1_apply, val_main_call0_v3_apply, val_main_call0_v0_apply,
    val_main_call0_v2_apply, val_main_call0_c_apply, val_main_call0_c_0_apply]
  refine taken x0 b k e he _ ?_
  rw [val_main_v27_apply]
  refine Eq.trans (congrArg (val_main_v18 (F := Ideal) x0) ?_) (v18_at x0 b k e he)
  funext d
  match d with
  | ⟨0, _⟩ => exact Fin.ext (hi100' b.val _ k.isLt)
  | ⟨1, _⟩ => exact Fin.ext (lo100' b.val _ k.isLt)

/-- The index with which the sizes are gathered. -/
theorem idx1_at : (val_main_call1_v5 (F := Ideal) x0 (ix3 b k 0)).toInt.toNat = e.val % 16384 := by
  rw [val_main_call1_v5_apply, val_main_call1_v4_apply, val_main_call1_v1_apply, val_main_call1_v3_apply, val_main_call1_v0_apply,
    val_main_call1_v2_apply, val_main_call1_c_apply, val_main_call1_c_0_apply]
  refine taken x0 b k e he _ ?_
  rw [val_main_v29_apply]
  refine Eq.trans (congrArg (val_main_v18 (F := Ideal) x0) ?_) (v18_at x0 b k e he)
  funext d
  match d with
  | ⟨0, _⟩ => exact Fin.ext (hi100' b.val _ k.isLt)
  | ⟨1, _⟩ => exact Fin.ext (lo100' b.val _ k.isLt)

/-- The gathered offsets. -/
theorem v28_at (c : Fin 2) : val_main_v28 (F := Ideal) x0 (ix3 b c k) = image x0 b ⟨80 + c.val, by omega⟩ ⟨(row e).val % 128, by omega⟩ (lane e) := by
  unfold val_main_v28
  refine (gather_at _ _ b c k (e.val % 16384) (idx0_at x0 b k e he) (by omega)).trans ?_
  have : ∀ n : Fin 16384, val_main_v25 (F := Ideal) x0 (ix3 b c n) = image x0 b ⟨80 + c.val, by omega⟩ ⟨n.val / 128, by omega⟩ ⟨n.val % 128, by omega⟩ := by
    intro n
    unfold val_main_v25 val_main_v1 image
    pointwise
  refine (this _).trans ?_
  congr 1 <;> simp only [Fin.mk.injEq, row, lane, Fin.ext_iff] <;> omega

/-- The gathered sizes. -/
theorem v30_at (c : Fin 2) : val_main_v30 (F := Ideal) x0 (ix3 b c k) = image x0 b ⟨82 + c.val, by omega⟩ ⟨(row e).val % 128, by omega⟩ (lane e) := by
  unfold val_main_v30
  refine (gather_at _ _ b c k (e.val % 16384) (idx1_at x0 b k e he) (by omega)).trans ?_
  have : ∀ n : Fin 16384, val_main_v26 (F := Ideal) x0 (ix3 b c n) = image x0 b ⟨82 + c.val, by omega⟩ ⟨n.val / 128, by omega⟩ ⟨n.val % 128, by omega⟩ := by
    intro n
    unfold val_main_v26 val_main_v2 image
    pointwise
  refine (this _).trans ?_
  congr 1 <;> simp only [Fin.mk.injEq, row, lane, Fin.ext_iff] <;> omega

/-- The lane plus its offset. -/
theorem v47_at : val_main_v47 (F := Ideal) x0 (ix3 b k 0) = (((lane e).val : ℝ) : EReal) + image x0 b 80 ⟨(row e).val % 128, by omega⟩ (lane e) := by
  rw [val_main_v47_apply, val_main_v33_apply, val_main_v32_apply, val_main_v31_apply]
  refine (congrArg₂ (fun p q : EReal => p + q) (v24_at x0 b k e he) (Eq.trans (congrArg (val_main_v28 (F := Ideal) x0)
    (idx3_eq _ b 0 k (hi100 _ _ k.isLt) rfl (lo100 _ _ k.isLt))) (v28_at x0 b k e he 0)))

/-- The image row plus its offset. -/
theorem v48_at : val_main_v48 (F := Ideal) x0 (ix3 b k 0) = ((((row e).val % 128 : ℕ) : ℝ) : EReal) + image x0 b 81 ⟨(row e).val % 128, by omega⟩ (lane e) := by
  rw [val_main_v48_apply, val_main_v36_apply, val_main_v35_apply, val_main_v34_apply]
  refine (congrArg₂ (fun p q : EReal => p + q) (v21_at x0 b k e he) (Eq.trans (congrArg (val_main_v28 (F := Ideal) x0)
    (idx3_eq _ b 1 k (hi100 _ _ k.isLt) rfl (lo100 _ _ k.isLt))) (v28_at x0 b k e he 1)))

/-- The first size. -/
theorem v49_at : val_main_v49 (F := Ideal) x0 (ix3 b k 0) = image x0 b 82 ⟨(row e).val % 128, by omega⟩ (lane e) := by
  rw [val_main_v49_apply, val_main_v38_apply, val_main_v37_apply]
  exact (congrArg (val_main_v30 (F := Ideal) x0) (idx3_eq _ b 0 k (hi100 _ _ k.isLt) rfl (lo100 _ _ k.isLt))).trans (v30_at x0 b k e he 0)

/-- The second size. -/
theorem v50_at : val_main_v50 (F := Ideal) x0 (ix3 b k 0) = image x0 b 83 ⟨(row e).val % 128, by omega⟩ (lane e) := by
  rw [val_main_v50_apply, val_main_v40_apply, val_main_v39_apply]
  exact (congrArg (val_main_v30 (F := Ideal) x0) (idx3_eq _ b 1 k (hi100 _ _ k.isLt) rfl (lo100 _ _ k.isLt))).trans (v30_at x0 b k e he 1)

end At

/-- The confidence mask at a rank: one where the value exceeds the threshold. -/
theorem v43_at (b : Fin 8) (k : Fin 100) (s : ℝ) (hs : val_main_values (F := Ideal) x0 (ix2 b k) = ((s : ℝ) : EReal)) :
    val_main_v43 (F := Ideal) x0 (ix2 b k) = if thr < s then (1 : EReal) else 0 := by
  rw [val_main_v43_apply, val_main_v42_apply, val_main_v41_apply, hs]
  show (((Ideal.cmp .ogt ((s : ℝ) : EReal) (Ideal.ofBits .f32 0x3DCCCCCD#32)).toNat : ℝ) : EReal) = _
  rw [ofBits_thr]
  by_cases h : thr < s <;> simp [Ideal.cmp, h]

/-- The reference's result for image `b` at rank `k`: the entry of the position ranked k-th, or zeros when its score does not exceed the threshold. -/
theorem ref_apply (b : Fin 8) (k : Fin 100) : ∃ e : Fin 1310720, rk (flat (heat8 x0 b)) e = k.val ∧ ∀ f : Fin 6,
    val_main_v54 (F := Ideal) x0 (ix3 b k f) = if thr < flat (heat8 x0 b) e then entry (image x0 b) (flat (heat8 x0 b) e) (row e) (lane e) f else 0 := by
  obtain ⟨e, hr, hv, he⟩ := top x0 b k
  refine ⟨e, hr, fun f => ?_⟩
  rw [val_main_v54_apply, val_main_v53_apply, val_main_v52_apply]
  have h1 : val_main_v43 (F := Ideal) x0 (idx_main_v52 (idx_main_v53 (ix3 b k f))) = if thr < flat (heat8 x0 b) e then (1 : EReal) else 0 := by
    refine Eq.trans (congrArg (val_main_v43 (F := Ideal) x0) ?_) (v43_at x0 b k _ hv)
    funext d
    match d with
    | ⟨0, _⟩ => rfl
    | ⟨1, _⟩ => rfl
  have h45 : val_main_v45 (F := Ideal) x0 (ix3 b k 0) = ((flat (heat8 x0 b) e : ℝ) : EReal) := by
    rw [val_main_v45_apply]
    refine Eq.trans (congrArg (val_main_values (F := Ideal) x0) ?_) hv
    funext d
    match d with
    | ⟨0, _⟩ => rfl
    | ⟨1, _⟩ => rfl
  have h2 : val_main_v51 (F := Ideal) x0 (ix3 b k f) = entry (image x0 b) (flat (heat8 x0 b) e) (row e) (lane e) f := by
    unfold val_main_v51
    refine (columns_apply _ _ _ _ _ _ _ b k f).trans ?_
    rw [h45, v16_at x0 b k e he, v47_at x0 b k e he, v48_at x0 b k e he, v49_at x0 b k e he, v50_at x0 b k e he]
    rfl
  rw [h1, h2]
  show (_ : EReal) * _ = _
  split_ifs <;> simp

end Ref
end Cert.Proof.RefValue

end
-- ==== Proof.Count.lean ====
module

public import proofs.«01_k».proof.Proof.RefRead

@[expose] public section

set_option maxRecDepth 16384

noncomputable section

namespace Cert.Proof.Count

open Idealize.ShloMosaic Cert.Proof.Rank Cert.Proof.Scores Cert.Proof.Slots Cert.Proof.RefValue Finset

/-! Counting by sums of zeros and ones. -/

/-- The reals inside the extended reals, as a map of sums. -/
def coeHom : ℝ →+ EReal := ⟨⟨Real.toEReal, EReal.coe_zero⟩, EReal.coe_add⟩

/-- A sum of reals is the same sum among the extended reals. -/
theorem coe_sum {ι : Type} (s : Finset ι) (f : ι → ℝ) : ((∑ i ∈ s, f i : ℝ) : EReal) = ∑ i ∈ s, (f i : EReal) :=
  map_sum coeHom f s

/-- A truth value widened to a word and converted is one or zero. -/
theorem word_ind (p : Prop) [Decidable p] :
    (FloatOps.sitofp (F := Ideal) FTy.f32 (BitVec.setWidth 32 (BitVec.ofBool (decide p))) : EReal) = if p then 1 else 0 := by
  show (((BitVec.setWidth 32 (BitVec.ofBool (decide p))).toInt : ℝ) : EReal) = _
  by_cases h : p <;> simp [h]

/-- A sum of ones over those that satisfy `p` counts them. -/
theorem sum_ind {ι : Type} [Fintype ι] (p : ι → Prop) [DecidablePred p] :
    ∑ i, (if p i then (1 : EReal) else 0) = (((univ.filter p).card : ℝ) : EReal) := by
  rw [card_filter]
  push_cast
  rw [coe_sum]
  exact sum_congr rfl fun i _ => by split_ifs <;> simp

/-- The same over pairs. -/
theorem sum_ind₂ {ι κ : Type} [Fintype ι] [Fintype κ] (p : ι → κ → Prop) [∀ i, DecidablePred (p i)] :
    ∑ i, ∑ k, (if p i k then (1 : EReal) else 0) = (((∑ i, (univ.filter (p i)).card : ℕ) : ℝ) : EReal) := by
  push_cast
  rw [coe_sum]
  exact sum_congr rfl fun i _ => sum_ind (p i)

/-- How many scores exceed `a` is how many marks the rows hold, marking what exceeds `a`. -/
theorem above_flat (X : Fin 80 → Fin 128 → Fin 128 → EReal) (a : ℝ) :
    above (flat X) a = total fun r l => a < rows X r l := by
  classical
  rw [total_eq_card]
  unfold above
  refine (card_equiv flE fun p => ?_).symm
  simp only [mem_filter, mem_univ, true_and]
  show _ ↔ a < rows X (row (fl p.1 p.2)) (lane (fl p.1 p.2))
  rw [row_fl, lane_fl]

/-- Counting the scores above `a` row by row. -/
theorem count_rows (X : Fin 80 → Fin 128 → Fin 128 → EReal) (a : ℝ) :
    ∑ r : Fin 10240, ∑ l : Fin 128, (if a < rows X r l then (1 : EReal) else 0) = ((above (flat X) a : ℝ) : EReal) := by
  classical
  rw [above_flat, sum_ind₂]
  unfold total cnt
  congr 4

/-- How many (class, line) pairs hold a score above `a`. -/
def lines (X : Fin 80 → Fin 128 → Fin 128 → EReal) (a : ℝ) : ℕ := by
  classical exact ∑ c : Fin 80, (univ.filter fun y : Fin 128 => ∃ l, a < score X c y l).card

/-- There are at least as many scores above `a` as lines holding one. -/
theorem lines_le (X : Fin 80 → Fin 128 → Fin 128 → EReal) (a : ℝ) : lines X a ≤ above (flat X) a := by
  classical
  have h1 : lines X a = (univ.filter fun p : Fin 80 × Fin 128 => ∃ l, a < score X p.1 p.2 l).card := by
    unfold lines
    simp only [card_filter]
    rw [Fintype.sum_prod_type]
  rw [h1]
  unfold above
  let ch : Fin 80 × Fin 128 → Fin 1310720 := fun p =>
    if h : ∃ l, a < score X p.1 p.2 l then fl ⟨128 * p.1.val + p.2.val, by omega⟩ h.choose else fl 0 0
  refine card_le_card_of_injOn ch (fun p hp => ?_) (fun p hp q hq he => ?_)
  · simp only [coe_filter, mem_univ, true_and, Set.mem_setOf_eq] at hp ⊢
    simp only [ch, dif_pos hp]
    unfold flat rows
    rw [row_fl, lane_fl]
    have e1 : (⟨(128 * p.1.val + p.2.val) / 128, by omega⟩ : Fin 80) = p.1 := Fin.ext (by dsimp only; omega)
    have e2 : (⟨(128 * p.1.val + p.2.val) % 128, by omega⟩ : Fin 128) = p.2 := Fin.ext (by dsimp only; omega)
    rw [e1, e2]
    exact hp.choose_spec
  · simp only [coe_filter, mem_univ, true_and, Set.mem_setOf_eq] at hp hq
    simp only [ch, dif_pos hp, dif_pos hq] at he
    have := congrArg (fun e => (row e).val) he
    simp only [row_fl] at this
    exact Prod.ext (Fin.ext (by omega)) (Fin.ext (by omega))

end Cert.Proof.Count

end
-- ==== Proof.BisectRead.lean ====
module

public import proofs.«01_k».proof.Proof.Count

@[expose] public section

set_option maxRecDepth 16384

noncomputable section

namespace Cert.Proof.Bisect

open Idealize.ShloMosaic Cert.Proof.Rank Cert.Proof.Scores Cert.Proof.Slots Cert.Proof.RefValue Cert.Proof.Count Finset
open Cert.KernelIdeal Cert.KernelIdeal.Gen Cert.Proof.KI

/-- How many elements of an 80 × 128 array exceed a number, as the kernel counts them. -/
def count80 {F : FTy → Type} [FloatOps F] (v : FVec F S80x128 .f32) (m : F .f32) : F .f32 :=
  extractAt ![0, 0, 0] (shapeCast S1x1x1 (multiReduction .add [1, 2] S1 (shapeCast S1x80x128 (sitofp .f32 (extui 32
    (cmpf .ogt v (broadcast S80x128 m)) natLt_1_32)) shapeCasts_S80x128_S1x80x128) 0x00000000#32 reduces_S1x80x128_S1 (.inl rfl) rfl)
    shapeCasts_S1_S1x1x1) inpos_S1x1x1_p0_0_0

/-- The count over the row maxima, as a sum of indicators. -/
theorem count80_apply (v : FVec Ideal S80x128 .f32) (m : EReal) :
    (count80 (F := Ideal) v m : EReal) = ∑ c : Fin 80, ∑ y : Fin 128, if m < v (ix2 c y) then (1 : EReal) else 0 := by
  simp only [← word_ind]
  unfold count80
  pointwise

/-- The new lower end of the first bisection, by the count at the midpoint. -/
theorem pay13_eq (x : Vec Ideal S1x84x128x128 .f32) (a b : EReal) : k0_pay13 (F := Ideal) x a b =
    Scalar.select (Scalar.cmpf (F := Ideal) .oge (count80 (F := Ideal) (k0_pay11 x) (k0_pay12 (F := Ideal) a b)) (Scalar.ofBits .f32 0x42C80000#32))
      (k0_pay12 (F := Ideal) a b) a := by
  unfold k0_pay13 count80
  rfl

/-- The new upper end of the first bisection, by the count at the midpoint. -/
theorem pay14_eq (x : Vec Ideal S1x84x128x128 .f32) (a b : EReal) : k0_pay14 (F := Ideal) x a b =
    Scalar.select (Scalar.cmpf (F := Ideal) .oge (count80 (F := Ideal) (k0_pay11 x) (k0_pay12 (F := Ideal) a b)) (Scalar.ofBits .f32 0x42C80000#32))
      b (k0_pay12 (F := Ideal) a b) := by
  unfold k0_pay14 count80
  rfl

/-- The scores of the local maxima, laid out in rows. -/
theorem pay10_apply (x : Vec Ideal S1x84x128x128 .f32) (r : Fin 10240) (l : Fin 128) :
    k0_pay10 (F := Ideal) x (ix2 r l) = ((rows (heat x) r l : ℝ) : EReal) := by
  pointwise [k0_pay10]
  exact pay9_apply x _ _ _

/-- A row's maximum exceeds a level exactly where one of its scores does. -/
theorem pay11_lt (x : Vec Ideal S1x84x128x128 .f32) (c : Fin 80) (y : Fin 128) (a : ℝ) :
    (a : EReal) < k0_pay11 (F := Ideal) x (ix2 c y) ↔ ∃ l, a < score (heat x) c y l := by
  pointwise [k0_pay11]
  simp only [pay9_apply]
  rw [show Ideal.ofBits FTy.f32 4286578688#32 = ⊥ from ofBits_ninf, lt_fold_max]
  simp

/-- The greatest row maximum is a real number at most one and bounds every score. -/
theorem pay15_apply (x : Vec Ideal S1x84x128x128 .f32) :
    ∃ b : ℝ, k0_pay15 (F := Ideal) x = (b : EReal) ∧ (∀ c y l, score (heat x) c y l ≤ b) ∧ b ≤ 1 := by
  have h1 : k0_pay15 (F := Ideal) x ≤ ((1 : ℝ) : EReal) := by
    pointwise [k0_pay15]
    rw [show Ideal.ofBits FTy.f32 4286578688#32 = ⊥ from ofBits_ninf, fold_max_le]
    refine ⟨bot_le, fun p _ => ?_⟩
    by_contra hc
    obtain ⟨l, hl⟩ := (pay11_lt x _ _ 1).mp (not_le.mp hc)
    exact absurd (score_le_one (heat x) _ _ l) (not_le.mpr hl)
  have h2 : ∀ c y l, ((score (heat x) c y l : ℝ) : EReal) ≤ k0_pay15 (F := Ideal) x := by
    intro c y l
    have : ((score (heat x) c y l : ℝ) : EReal) ≤ k0_pay11 (F := Ideal) x (ix2 c y) := by
      pointwise [k0_pay11]
      simp only [pay9_apply]
      rw [le_fold_max]
      exact Or.inr ⟨l, mem_univ _, le_refl _⟩
    refine this.trans ?_
    pointwise [k0_pay15]
    rw [le_fold_max]
    exact Or.inr ⟨(c, y), mem_univ _, le_refl _⟩
  generalize k0_pay15 (F := Ideal) x = w at h1 h2
  change EReal at w
  induction w using EReal.rec with
  | bot => exact absurd (h2 0 0 0) (by simp)
  | top => exact absurd h1 (not_le.mpr (EReal.coe_lt_top 1))
  | coe b => exact ⟨b, rfl, fun c y l => EReal.coe_le_coe_iff.mp (h2 c y l), EReal.coe_le_coe_iff.mp h1⟩

/-- The count above the midpoint, as a sum of indicators. -/
theorem count_all (v : FVec Ideal S10240x128 .f32) (a b : EReal) :
    k0_pay3 (F := Ideal) v a b = ∑ r : Fin 10240, ∑ l : Fin 128, if k0_pay2 (F := Ideal) a b < v (ix2 r l) then (1 : EReal) else 0 := by
  simp only [← word_ind]
  unfold k0_pay3
  generalize k0_pay2 (F := Ideal) a b = m
  pointwise

/-- The count above the level at which the second bisection begins, as a sum of indicators. -/
theorem count_from (x : Vec Ideal S1x84x128x128 .f32) (a : EReal) :
    k0_pay16 (F := Ideal) x a = ∑ r : Fin 10240, ∑ l : Fin 128, if a < k0_pay10 (F := Ideal) x (ix2 r l) then (1 : EReal) else 0 := by
  simp only [← word_ind]
  unfold k0_pay16
  generalize k0_pay10 (F := Ideal) x = v
  pointwise

/-- The midpoint of the second bisection. -/
theorem half (a b : ℝ) : k0_pay2 (F := Ideal) (a : EReal) (b : EReal) = (((a + b) / 2 : ℝ) : EReal) := by
  show Ideal.ofBits .f32 0x3F000000#32 * ((a : EReal) + (b : EReal)) = _
  rw [show Ideal.ofBits .f32 0x3F000000#32 = ((1 / 2 : ℝ) : EReal) by simp [Ideal.ofBits, Ideal.ieee, -EReal.coe_mul]; norm_num]
  rw [← EReal.coe_add, ← EReal.coe_mul]
  congr 1; ring

end Cert.Proof.Bisect

end
-- ==== Proof.SweepRead.lean ====
module

public import proofs.«01_k».proof.Proof.BisectRead

@[expose] public section

set_option maxRecDepth 16384

noncomputable section

namespace Cert.Proof.Sweeps

open Idealize.ShloMosaic Cert.Proof.Rank Cert.Proof.Scores Cert.Proof.Slots Cert.Proof.RefValue Cert.Proof.Count Finset
open Cert.KernelIdeal Cert.KernelIdeal.Gen Cert.Proof.KI

/-! ### The kernel's marks and their counts -/

section Marks
variable (x : Vec Ideal S1x84x128x128 .f32) (lo : ℝ)

/-- A mark's bit is one where the score is above the level. -/
theorem pay17_apply (r : Fin 10240) (l : Fin 128) : k0_pay17 (F := Ideal) x (lo : EReal) (ix2 r l) = BitVec.ofBool (decide (lo < rows (heat x) r l)) := by
  have h := Bisect.pay10_apply x r l
  unfold k0_pay17
  generalize k0_pay10 (F := Ideal) x = v at h ⊢
  pointwise
  rw [h]
  congr 1
  rw [decide_eq_decide, EReal.coe_lt_coe_iff]

/-- A mark is one where the score is above the level, else zero. -/
theorem pay18_apply (r : Fin 10240) (l : Fin 128) : k0_pay18 (F := Ideal) x (lo : EReal) (ix2 r l) = (if lo < rows (heat x) r l then 1 else 0 : EReal) := by
  have h := pay17_apply x lo r l
  unfold k0_pay18
  generalize k0_pay17 (F := Ideal) x (lo : EReal) = v at h ⊢
  pointwise
  rw [h]
  exact word_ind _

end Marks

/-- The strict triangle is one where the row is before the column, else zero. -/
theorem pay20_apply (i j : Fin 128) : k0_pay20 (F := Ideal) (ix2 i j) = (if i < j then 1 else 0 : EReal) := by
  unfold k0_pay20
  pointwise
  rw [sitofp_ofNat _ (by omega), sitofp_ofNat _ (by omega)]
  refine (word_ind _).trans ?_
  simp only [EReal.coe_lt_coe_iff, Nat.cast_lt, Fin.lt_def]

/-- Every entry of the square of ones is one. -/
theorem pay21_apply (i j : Fin 128) : k0_pay21 (F := Ideal) (ix2 i j) = (1 : EReal) := by
  unfold k0_pay21
  pointwise

/-- The lane numbers hold each lane's number. -/
theorem pay19_apply (r : Fin 10240) (l : Fin 128) : k0_pay19 (F := Ideal) (iota .tc S10240x128 32 [1] iota_S10240x128_d1_w32) (ix2 r l) = (((l.val : ℕ) : ℝ) : EReal) := by
  unfold k0_pay19
  pointwise
  exact sitofp_ofNat _ (by omega)

/-- The marks before a lane are the product of its row and the strict triangle. -/
theorem pay22_read (v : FVec Ideal S10240x128 .f32) (r : Fin 10240) (l : Fin 128) :
    k0_pay22 (F := Ideal) v (ix2 r l) = (∑ k : Fin 128, v (ix2 r k) * (k0_pay20 (F := Ideal) (ix2 k l)) : EReal) := by
  unfold k0_pay22
  generalize k0_pay20 (F := Ideal) = w
  pointwise

/-- The marks of a row are the product of the row and the square of ones. -/
theorem pay23_read (v : FVec Ideal S10240x128 .f32) (r : Fin 10240) (l : Fin 128) :
    k0_pay23 (F := Ideal) v (ix2 r l) = (∑ k : Fin 128, v (ix2 r k) * (k0_pay21 (F := Ideal) (ix2 k l)) : EReal) := by
  unfold k0_pay23
  generalize k0_pay21 (F := Ideal) = w
  pointwise

section Counts
variable (I : Fin 10240 → Fin 128 → Prop)

open Classical in
/-- An array that is one where `I` marks and zero elsewhere. -/
def Marks (v : FVec Ideal S10240x128 .f32) : Prop := ∀ r l, v (ix2 r l) = (if I r l then 1 else 0 : EReal)

variable {I} {v : FVec Ideal S10240x128 .f32} (hv : Marks I v)
include hv

/-- The product with the strict upper triangle counts the marked lanes before each lane. -/
theorem pay22_apply (r : Fin 10240) (l : Fin 128) : k0_pay22 (F := Ideal) v (ix2 r l) = ((excl I r l : ℝ) : EReal) := by
  classical
  rw [pay22_read]
  have : ∀ k : Fin 128, (v (ix2 r k) * k0_pay20 (F := Ideal) (ix2 k l) : EReal) = if k < l ∧ I r k then 1 else 0 := fun k => by
    rw [hv r k, pay20_apply]
    by_cases h1 : I r k <;> by_cases h2 : k < l <;> simp [h1, h2]
  refine (sum_congr rfl fun k _ => this k).trans ((sum_ind _).trans ?_)
  unfold excl
  congr 4

/-- The product with ones counts the marked lanes of the row. -/
theorem pay23_apply (r : Fin 10240) (l : Fin 128) : k0_pay23 (F := Ideal) v (ix2 r l) = ((cnt I r : ℝ) : EReal) := by
  classical
  rw [pay23_read]
  have : ∀ k : Fin 128, (v (ix2 r k) * k0_pay21 (F := Ideal) (ix2 k l) : EReal) = if I r k then 1 else 0 := fun k => by
    rw [hv r k, pay21_apply, mul_one]
  refine (sum_congr rfl fun k _ => this k).trans ((sum_ind _).trans ?_)
  unfold cnt
  congr 4

end Counts

/-! ### The running sums over the classes -/

/-- The sum of the `w` last entries of a sequence up to an index. -/
def win (w : ℕ) (f : ℕ → ℕ) (n : ℕ) : ℕ := ∑ i ∈ range w, if i ≤ n then f (n - i) else 0

/-- A window and the one that ends where it begins make a window of twice the width. -/
theorem win_double (w : ℕ) (f : ℕ → ℕ) (n : ℕ) : win w f n + (if n < w then 0 else win w f (n - w)) = win (w + w) f n := by
  unfold win
  rw [sum_range_add]
  congr 1
  split_ifs with h
  · exact (sum_eq_zero fun i _ => if_neg (by omega)).symm
  · refine sum_congr rfl fun i _ => ?_
    by_cases hi : i ≤ n - w
    · rw [if_pos hi, if_pos (by omega)]; congr 1; omega
    · rw [if_neg hi, if_neg (by omega)]

/-- A window wider than what lies before it is the sum of everything up to its end. -/
theorem win_all (f : ℕ → ℕ) (n w : ℕ) (h : n < w) : win w f n = ∑ i ∈ range (n + 1), f i := by
  unfold win
  obtain ⟨k, rfl⟩ : ∃ k, w = (n + 1) + k := ⟨w - (n + 1), by omega⟩
  rw [sum_range_add, ← sum_range_reflect, add_eq_left.mpr (sum_eq_zero fun i _ => if_neg (by omega))]
  refine sum_congr rfl fun i hi => ?_
  have := mem_range.mp hi
  rw [if_pos (by omega)]
  congr 1
  omega

/-- A window of width one is its one term. -/
theorem win_one (f : ℕ → ℕ) (n : ℕ) : win 1 f n = f n := by
  unfold win
  rw [sum_range_one, if_pos (Nat.zero_le _), Nat.sub_zero]

/-- A column whose entries are a sequence's windows of width `w`. -/
def Win (w : ℕ) (f : ℕ → ℕ) (v : FVec Ideal S80x1 .f32) : Prop := ∀ c : Fin 80, v (ix2 c 0) = ((win w f c.val : ℝ) : EReal)

/-- Adding the column shifted down by the width doubles the width. -/
theorem Win.step {w w' : ℕ} {f : ℕ → ℕ} {v u : FVec Ideal S80x1 .f32} (hv : Win w f v) (hw : w' = w + w)
    (hu : ∀ c : Fin 80, (u (ix2 c 0) : EReal) = v (ix2 c 0) + (if _h : c.val < w then 0 else v (ix2 ⟨c.val - w, by omega⟩ 0))) : Win w' f u := by
  subst hw
  intro c
  rw [hu, hv c, ← win_double]
  split_ifs with h
  · rw [add_zero, add_zero]
  · rw [hv ⟨c.val - w, by omega⟩, ← EReal.coe_add, ← Nat.cast_add]

/-- A column plus its copy shifted down by `w` adds to each entry the one `w` above it, or zero where there is none. -/
theorem up {w n : ℕ} (hwn : w + n = 80) (hs : S80x1.Slices ![0, 0] ⟨2, ![n, 1]⟩) (hc : Shape.Concatenates [⟨2, ![w, 1]⟩, ⟨2, ![n, 1]⟩] S80x1 0)
    (v : FVec Ideal S80x1 .f32) (c : Fin 80) :
    (addf (F := Ideal) v (concatenate S80x1 0 [⟨⟨2, ![w, 1]⟩, broadcast ⟨2, ![w, 1]⟩ (Scalar.ofBits (F := Ideal) .f32 0x00000000#32)⟩,
      ⟨⟨2, ![n, 1]⟩, extractStridedSlice ⟨2, ![n, 1]⟩ ![0, 0] v hs⟩] hc) (ix2 c 0) : EReal) =
    v (ix2 c 0) + (if _h : c.val < w then 0 else v (ix2 ⟨c.val - w, by omega⟩ 0)) := by
  pointwise
  rfl

/-- The marks of a row are summed over its lanes. -/
theorem lanes_apply (v41 : FVec Ideal S10240x128 .f32) (c : Fin 80) (y : Fin 128) :
    (multiReduction (F := Ideal) .add [2] S80x128 (shapeCast S80x128x128 v41 shapeCasts_S10240x128_S80x128x128) 0x00000000#32
      reduces_S80x128x128_S80x128 (.inl rfl) rfl (ix2 c y) : EReal) = ∑ l : Fin 128, v41 (ix2 ⟨c.val * 128 + y.val, by omega⟩ l) := by
  pointwise

/-- The marks of a class are summed over its rows. -/
theorem classes_apply (v55 : FVec Ideal S80x128 .f32) (c : Fin 80) :
    (shapeCast S80x1 (multiReduction (F := Ideal) .add [1] S80 v55 0x00000000#32 reduces_S80x128_S80 (.inl rfl) rfl) shapeCasts_S80_S80x1 (ix2 c 0) : EReal) =
      ∑ y : Fin 128, v55 (ix2 c y) := by
  pointwise

/-- The marks before a row: those of the class's earlier rows and those of the earlier classes. -/
theorem before_apply (v55 : FVec Ideal S80x128 .f32) (v86 v58 : FVec Ideal S80x1 .f32) (c : Fin 80) (y : Fin 128) :
    (addf (F := Ideal) (matmul (F := Ideal) dot_S80x128_S128x128_S80x128_1_0_0_1_n_n none v55 (k0_pay20 (F := Ideal)) (constant S80x128 .f32 0x00000000#32))
      (broadcastTo S80x128 (subf (F := Ideal) v86 v58) broadcasts_S80x1_S80x128) (ix2 c y) : EReal) =
      ∑ k : Fin 128, v55 (ix2 c k) * k0_pay20 (F := Ideal) (ix2 k y) + (v86 (ix2 c 0) - v58 (ix2 c 0)) := by
  generalize k0_pay20 (F := Ideal) = w
  pointwise

/-! ### The number of marks in the rows before each row -/

section Base
variable (I : Fin 10240 → Fin 128 → Prop)

/-- The marks of a row, the rows counted on beyond the last. -/
def cntN (n : ℕ) : ℕ := if h : n < 10240 then cnt I ⟨n, h⟩ else 0
/-- The marks of a class. -/
def clsN (c : ℕ) : ℕ := ∑ y ∈ range 128, cntN I (128 * c + y)

/-- The marks before a row, as a sum over the rows before it. -/
theorem base_eq (r : Fin 10240) : base I r = ∑ n ∈ range r.val, cntN I n := by
  unfold base
  refine sum_bij (fun r' _ => r'.val) (fun r' h => mem_range.mpr (mem_filter.mp h).2) (fun a _ b _ h => Fin.ext h)
    (fun n hn => ⟨⟨n, by have := mem_range.mp hn; omega⟩, mem_filter.mpr ⟨mem_univ _, mem_range.mp hn⟩, rfl⟩) (fun r' _ => ?_)
  unfold cntN
  rw [dif_pos r'.isLt]

/-- A sum over the rows of the classes before one, class by class. -/
theorem range_classes (f : ℕ → ℕ) (c : ℕ) : ∑ n ∈ range (128 * c), f n = ∑ j ∈ range c, ∑ y ∈ range 128, f (128 * j + y) := by
  induction c with
  | zero => rw [Nat.mul_zero, range_zero, sum_empty, sum_empty]
  | succ c ih => rw [Nat.mul_succ, sum_range_add f (128 * c) 128, ih, sum_range_succ (fun j => ∑ y ∈ range 128, f (128 * j + y)) c]

/-- The marks before a row are those of its class's earlier rows and those of the earlier classes. -/
theorem base_split (c : Fin 80) (y : Fin 128) : base I ⟨128 * c.val + y.val, by omega⟩ = (∑ k ∈ range y.val, cntN I (128 * c.val + k)) + ∑ j ∈ range c.val, clsN I j := by
  rw [base_eq, sum_range_add _ (128 * c.val) y.val, range_classes, add_comm]
  rfl

variable {I} {v : FVec Ideal S10240x128 .f32} (hv : Marks I v)
include hv

/-- A row of the kernel's marks sums to their number. -/
theorem row_sum (r : Fin 10240) : ∑ l : Fin 128, (v (ix2 r l) : EReal) = ((cnt I r : ℝ) : EReal) := by
  classical
  refine (sum_congr rfl fun k _ => hv r k).trans ((sum_ind _).trans ?_)
  unfold cnt
  congr 4

/-- The kernel's count of the marks in the rows before each row. -/
theorem pay24_apply (c : Fin 80) (y : Fin 128) : k0_pay24 (F := Ideal) v (ix2 c y) = ((base I ⟨128 * c.val + y.val, by omega⟩ : ℝ) : EReal) := by
  unfold k0_pay24
  dsimp only
  refine (before_apply _ _ _ c y).trans ?_
  generalize hv55 : multiReduction (F := Ideal) .add [2] S80x128 (shapeCast S80x128x128 v shapeCasts_S10240x128_S80x128x128) 0x00000000#32
      reduces_S80x128x128_S80x128 (.inl rfl) rfl = v55
  have h55 : ∀ (c : Fin 80) (y : Fin 128), (v55 (ix2 c y) : EReal) = ((cntN I (128 * c.val + y.val) : ℝ) : EReal) := by
    intro c y
    rw [← hv55, lanes_apply, row_sum hv]
    unfold cntN
    rw [dif_pos (by omega), show (⟨c.val * 128 + y.val, by omega⟩ : Fin 10240) = ⟨128 * c.val + y.val, by omega⟩ from Fin.ext (by dsimp only; omega)]
  generalize hv58 : shapeCast S80x1 (multiReduction (F := Ideal) .add [1] S80 v55 0x00000000#32 reduces_S80x128_S80 (.inl rfl) rfl) shapeCasts_S80_S80x1 = v58
  have h58 : Win 1 (clsN I) v58 := by
    intro c
    rw [← hv58, classes_apply]
    refine (sum_congr rfl fun y _ => h55 c y).trans ?_
    rw [← coe_sum, ← Nat.cast_sum, win_one]
    unfold clsN
    rw [sum_range]
  have h86 := ((((((h58.step (w' := 2) rfl (up (w := 1) (n := 79) rfl slices_S80x1_o0_0_S79x1 concatenates_S1x1_S79x1_S80x1_d0 _)).step
    (w' := 4) rfl (up (w := 2) (n := 78) rfl slices_S80x1_o0_0_S78x1 concatenates_S2x1_S78x1_S80x1_d0 _)).step
    (w' := 8) rfl (up (w := 4) (n := 76) rfl slices_S80x1_o0_0_S76x1 concatenates_S4x1_S76x1_S80x1_d0 _)).step
    (w' := 16) rfl (up (w := 8) (n := 72) rfl slices_S80x1_o0_0_S72x1 concatenates_S8x1_S72x1_S80x1_d0 _)).step
    (w' := 32) rfl (up (w := 16) (n := 64) rfl slices_S80x1_o0_0_S64x1 concatenates_S16x1_S64x1_S80x1_d0 _)).step
    (w' := 64) rfl (up (w := 32) (n := 48) rfl slices_S80x1_o0_0_S48x1 concatenates_S32x1_S48x1_S80x1_d0 _)).step
    (w' := 128) rfl (up (w := 64) (n := 16) rfl slices_S80x1_o0_0_S16x1 concatenates_S64x1_S16x1_S80x1_d0 _)
  have hk : ∀ k : Fin 128, (v55 (ix2 c k) * k0_pay20 (F := Ideal) (ix2 k y) : EReal) = (((if k.val < y.val then cntN I (128 * c.val + k.val) else 0 : ℕ) : ℝ) : EReal) := fun k => by
    rw [h55, pay20_apply]
    by_cases h : k < y
    · rw [if_pos h, if_pos (Fin.lt_def.mp h), mul_one]
    · rw [if_neg h, if_neg (fun h' => h (Fin.lt_def.mpr h')), mul_zero]; simp
  have hs : ∑ k : Fin 128, (if k.val < y.val then cntN I (128 * c.val + k.val) else 0) = ∑ k ∈ range y.val, cntN I (128 * c.val + k) := by
    rw [Fin.sum_univ_eq_sum_range (fun k => if k < y.val then cntN I (128 * c.val + k) else 0) 128, ← sum_filter]
    refine sum_congr (ext fun k => ?_) fun _ _ => rfl
    rw [mem_filter, mem_range, mem_range]
    omega
  have h1 : (∑ k : Fin 128, v55 (ix2 c k) * k0_pay20 (F := Ideal) (ix2 k y) : EReal) = ((∑ k ∈ range y.val, cntN I (128 * c.val + k) : ℕ) : ℝ) := by
    refine (sum_congr rfl fun k _ => hk k).trans ?_
    rw [← coe_sum, ← Nat.cast_sum, hs]
  refine (congrArg₂ (· + ·) h1 (congrArg₂ (· - ·) (h86 c) (h58 c))).trans ?_
  rw [win_all _ _ 128 (by omega), win_one, base_split, sum_range_succ (clsN I) c.val]
  rw [← EReal.coe_sub, ← EReal.coe_add]
  refine congrArg _ ?_
  push_cast
  ring

end Base

/-! ### One sweep -/

/-- A selection by the conjunction of two bits takes the first value exactly where both conditions hold. -/
theorem select_and (p q : Prop) [Decidable p] [Decidable q] {α : Type} (a b : α) :
    Scalar.select (IntOp.andi (BitVec.ofBool (decide p)) (BitVec.ofBool (decide q))) a b = if p ∧ q then a else b := by
  by_cases hp : p <;> by_cases hq : q <;> simp [hp, hq, Scalar.select, IntOp.andi]

/-- The loop's counter, converted, is the sweep's number. -/
theorem iv_cast (t : Fin k0_t2_loop.trips) : (((Scf.iv 0#32 1#32 t.val).toInt : ℝ) : EReal) = ((t.val : ℝ) : EReal) := by
  have : (Scf.iv 0#32 1#32 t.val).toInt = (t.val : ℤ) := by
    revert t
    decide
  rw [this]
  norm_cast

/-- What the kernel's arrays hold when the sweeps begin. -/
structure Ready (I : Fin 10240 → Fin 128 → Prop) (S : Fin 10240 → Fin 128 → ℝ) (v21 v43 v52 v53 : FVec Ideal S10240x128 .f32) (v39 : IVec S10240x128 1)
    (v51 : FVec Ideal S128x128 .f32) (v89 : FVec Ideal S80x128 .f32) : Prop where
  val : ∀ r l, v21 (ix2 r l) = ((S r l : ℝ) : EReal)
  mark : open Classical in ∀ r l, v39 (ix2 r l) = BitVec.ofBool (decide (I r l))
  lane : ∀ r l, v43 (ix2 r l) = ((l.val : ℝ) : EReal)
  one : ∀ i j, v51 (ix2 i j) = (1 : EReal)
  excl : ∀ r l, v52 (ix2 r l) = ((excl I r l : ℝ) : EReal)
  cnt : ∀ r l, v53 (ix2 r l) = ((cnt I r : ℝ) : EReal)
  base : ∀ (c : Fin 80) (y : Fin 128), v89 (ix2 c y) = ((base I ⟨128 * c.val + y.val, by omega⟩ : ℝ) : EReal)

section Sweep
variable {I : Fin 10240 → Fin 128 → Prop} {S : Fin 10240 → Fin 128 → ℝ} {v21 v43 v52 v53 : FVec Ideal S10240x128 .f32} {v39 : IVec S10240x128 1}
  {v51 : FVec Ideal S128x128 .f32} {v89 : FVec Ideal S80x128 .f32} (R : Ready I S v21 v43 v52 v53 v39 v51 v89)
include R

/-- The kernel's test of a row's base and the sweep against a lane. -/
theorem test_row (t : Fin k0_t2_loop.trips) (r : Fin 10240) (k : Fin 128) :
    (v89 (ix2 ⟨r.val / 128, by omega⟩ ⟨r.val % 128, by omega⟩) + ((t.val : ℝ) : EReal) = v43 (ix2 r k) ↔ base I r + t.val = k.val) := by
  rw [R.base, R.lane, ← EReal.coe_add, EReal.coe_eq_coe_iff, ← Nat.cast_add, Nat.cast_inj]
  have : (⟨128 * (r.val / 128) + r.val % 128, by omega⟩ : Fin 10240) = r := Fin.ext (by dsimp only; omega)
  rw [this]

/-- Its test that a row has more marks than the sweep's number. -/
theorem test_cnt (t : Fin k0_t2_loop.trips) (r : Fin 10240) (k : Fin 128) : (((t.val : ℝ) : EReal) < v53 (ix2 r k) ↔ t.val < cnt I r) := by
  rw [R.cnt, EReal.coe_lt_coe_iff, Nat.cast_lt]

/-- Its test that a mark is the sweep's in its row. -/
theorem test_excl (t : Fin k0_t2_loop.trips) (r : Fin 10240) (k : Fin 128) : (v52 (ix2 r k) = ((t.val : ℝ) : EReal) ↔ excl I r k = t.val) := by
  rw [R.excl, EReal.coe_eq_coe_iff, Nat.cast_inj]

open Classical in
/-- What one sweep adds to the scores by place. -/
theorem pay31_apply (t : Fin k0_t2_loop.trips) (acc : FVec Ideal S1x128 .f32) (k : Fin 128) :
    (k0_pay31 (F := Ideal) v21 v39 v43 v51 v52 v53 v89 t acc (ix2 0 k) : EReal) = acc (ix2 0 k) + ∑ r : Fin 10240,
      if base I r + t.val = k.val ∧ t.val < cnt I r then ∑ l : Fin 128, (if excl I r l = t.val ∧ I r l then ((S r l : ℝ) : EReal) else 0) else 0 := by
  pointwise [k0_pay31, k0_pay30, k0_pay29, k0_pay28]
  simp only [iv_cast, R.mark, R.one, R.val, mul_one, select_and, test_row R, test_cnt R, test_excl R]

open Classical in
/-- What one sweep adds to the rows by place. -/
theorem pay32_apply (t : Fin k0_t2_loop.trips) (acc : FVec Ideal S1x128 .f32) (k : Fin 128) :
    (k0_pay32 (F := Ideal) v43 v53 v89 t acc (ix2 0 k) : EReal) = acc (ix2 0 k) + ∑ r : Fin 10240,
      if base I r + t.val = k.val ∧ t.val < cnt I r then ((r.val : ℝ) : EReal) else 0 := by
  pointwise [k0_pay32, k0_pay30, k0_pay29, k0_pay28]
  simp only [iv_cast, select_and, test_row R, test_cnt R]
  refine congrArg (acc (ix2 0 k) + ·) (sum_congr rfl fun r _ => ?_)
  rw [sitofp_ofNat _ (by omega)]

open Classical in
/-- What one sweep adds to the lanes by place. -/
theorem pay33_apply (t : Fin k0_t2_loop.trips) (acc : FVec Ideal S1x128 .f32) (k : Fin 128) :
    (k0_pay33 (F := Ideal) v39 v43 v51 v52 v53 v89 t acc (ix2 0 k) : EReal) = acc (ix2 0 k) + ∑ r : Fin 10240,
      if base I r + t.val = k.val ∧ t.val < cnt I r then ∑ l : Fin 128, (if excl I r l = t.val ∧ I r l then ((l.val : ℝ) : EReal) else 0) else 0 := by
  pointwise [k0_pay33, k0_pay30, k0_pay29, k0_pay28]
  simp only [iv_cast, R.mark, R.one, mul_one, select_and, test_row R, test_cnt R, test_excl R]
  simp only [R.lane]

end Sweep

end Cert.Proof.Sweeps
end
-- ==== Proof.Bisect.lean ====
module

public import proofs.«01_k».proof.Proof.BisectRead

@[expose] public section

set_option maxRecDepth 16384

noncomputable section

namespace Cert.Proof.Bisect

open Idealize.ShloMosaic Cert.Proof.Rank Cert.Proof.Scores Cert.Proof.Slots Cert.Proof.RefValue Cert.Proof.Count Finset
open Cert.KernelIdeal Cert.KernelIdeal.Gen Cert.Proof.KI

/-- The midpoint of the first bisection. -/
theorem half' (a b : ℝ) : k0_pay12 (F := Ideal) (a : EReal) (b : EReal) = (((a + b) / 2 : ℝ) : EReal) := half a b

/-- The word of the literal 100. -/
theorem ofBits_100 : Ideal.ofBits .f32 0x42C80000#32 = ((100 : ℝ) : EReal) := by
  simp [Ideal.ofBits, Ideal.ieee, -EReal.coe_mul]; norm_num

/-- The word of the literal 124. -/
theorem ofBits_124 : Ideal.ofBits .f32 0x42F80000#32 = ((124 : ℝ) : EReal) := by
  simp [Ideal.ofBits, Ideal.ieee, -EReal.coe_mul]; norm_num

/-- Comparing a count with a hundred. -/
theorem select_oge {α : Type} (n : ℕ) (p q : α) :
    Scalar.select (Scalar.cmpf (F := Ideal) (φ := .f32) .oge ((n : ℝ) : EReal) (Scalar.ofBits (F := Ideal) .f32 0x42C80000#32)) p q = if 100 ≤ n then p else q := by
  have : (Scalar.cmpf (F := Ideal) (φ := .f32) .oge ((n : ℝ) : EReal) (Scalar.ofBits (F := Ideal) .f32 0x42C80000#32)) = BitVec.ofBool (decide (100 ≤ n)) := by
    show Ideal.cmp .oge ((n : ℝ) : EReal) (Ideal.ofBits .f32 0x42C80000#32) = _
    rw [ofBits_100]
    unfold Ideal.cmp
    dsimp only
    congr 1
    rw [decide_eq_decide, EReal.coe_le_coe_iff]
    exact_mod_cast Iff.rfl
  rw [this]
  by_cases h : 100 ≤ n
  · rw [if_pos h, decide_eq_true h]; rfl
  · rw [if_neg h, decide_eq_false h]; rfl

/-- What holds of the second bisection's result holds of the threshold. -/
theorem threshold_of {F : FTy → Type} [FloatOps F] (x : Vec F S1x84x128x128 .f32) (P : F .f32 → Prop)
    (h : ∀ k, k = 34 → P (search (k0_pay10 x) k (rowSearch x).1 (k0_pay15 x) (k0_pay16 x (rowSearch x).1) (counter 0)).1) : P (threshold x) := by
  delta threshold
  exact h 34 rfl

section Search
variable (x : Vec Ideal S1x84x128x128 .f32)

/-- The count over the row maxima is the number of rows with a score above the level. -/
theorem count80_lines (a : ℝ) : (count80 (F := Ideal) (k0_pay11 x) (a : EReal) : EReal) = ((lines (heat x) a : ℝ) : EReal) := by
  classical
  rw [count80_apply]
  simp only [pay11_lt]
  rw [sum_ind₂]
  unfold lines
  congr 4

/-- The new lower end of the first bisection: the midpoint where at least 100 rows exceed it, else the old one. -/
theorem pay13_apply (a b : ℝ) : k0_pay13 (F := Ideal) x (a : EReal) (b : EReal) =
    if 100 ≤ lines (heat x) ((a + b) / 2) then (((a + b) / 2 : ℝ) : EReal) else (a : EReal) := by
  rw [pay13_eq, half', count80_lines, select_oge]

/-- The new upper end of the first bisection: the midpoint where fewer than 100 rows exceed it, else the old one. -/
theorem pay14_apply (a b : ℝ) : k0_pay14 (F := Ideal) x (a : EReal) (b : EReal) =
    if 100 ≤ lines (heat x) ((a + b) / 2) then (b : EReal) else (((a + b) / 2 : ℝ) : EReal) := by
  rw [pay14_eq, half', count80_lines, select_oge]

/-- How many scores exceed `a`. -/
abbrev num (a : ℝ) : ℕ := above (flat (heat x)) a

/-- What holds of the first bisection's interval throughout. -/
def Good (p : EReal × EReal) : Prop :=
  ∃ a b : ℝ, p = ((a : EReal), (b : EReal)) ∧ a ≤ b ∧ thr ≤ a ∧ (a = thr ∨ 100 ≤ num x a)

/-- What holds at the start of a fold and is kept by every step holds at its end. -/
theorem foldl_inv {α β : Type} (P : α → Prop) (g : α → β → α) (h : ∀ a k, P a → P (g a k)) (l : List β) (a : α) (ha : P a) : P (l.foldl g a) := by
  induction l generalizing a with
  | nil => exact ha
  | cons k l ih => exact ih _ (h a k ha)

/-- The first bisection ends at a lower end at or above the threshold, with a hundred scores above it unless it never moved. -/
theorem rowSearch_good : Good x (rowSearch (F := Ideal) x) := by
  unfold rowSearch
  rw [Scf.fold_eq]
  refine foldl_inv (Good x) _ (fun p k hp => ?_) _ _ ?_
  · obtain ⟨a, b, rfl, hab, hta, hn⟩ := hp
    unfold Good
    dsimp only
    rw [pay13_apply, pay14_apply]
    split_ifs with h
    · exact ⟨(a + b) / 2, b, rfl, by linarith, by linarith, Or.inr (h.trans (lines_le _ _))⟩
    · exact ⟨a, (a + b) / 2, rfl, by linarith, hta, hn⟩
  · refine ⟨thr, 1, Prod.ext ofBits_thr ofBits_one, ?_, le_refl _, Or.inl rfl⟩
    unfold thr; norm_num

/-- The sum of the indicators of the scores above a level is their number. -/
theorem count_num (a : ℝ) : (∑ r : Fin 10240, ∑ l : Fin 128, if (a : EReal) < k0_pay10 (F := Ideal) x (ix2 r l) then (1 : EReal) else 0) = ((num x a : ℝ) : EReal) := by
  simp only [pay10_apply, EReal.coe_lt_coe_iff]
  exact count_rows _ a

/-- The count of the second bisection is the number of scores above the midpoint. -/
theorem pay3_apply (a b : ℝ) : k0_pay3 (F := Ideal) (k0_pay10 x) (a : EReal) (b : EReal) = ((num x ((a + b) / 2) : ℝ) : EReal) := by
  rw [count_all, half]
  exact count_num x _

/-- The new lower end of the second bisection. -/
theorem pay4_apply (a b : ℝ) : k0_pay4 (F := Ideal) (k0_pay10 x) (a : EReal) (b : EReal) =
    if 100 ≤ num x ((a + b) / 2) then (((a + b) / 2 : ℝ) : EReal) else (a : EReal) := by
  unfold k0_pay4
  dsimp only
  rw [pay3_apply, half, select_oge]

/-- The new upper end of the second bisection. -/
theorem pay5_apply (a b : ℝ) : k0_pay5 (F := Ideal) (k0_pay10 x) (a : EReal) (b : EReal) =
    if 100 ≤ num x ((a + b) / 2) then (b : EReal) else (((a + b) / 2 : ℝ) : EReal) := by
  unfold k0_pay5
  dsimp only
  rw [pay3_apply, half, select_oge]

/-- The new count of the second bisection: that of the lower end. -/
theorem pay6_apply (a b : ℝ) (n : EReal) : k0_pay6 (F := Ideal) (k0_pay10 x) (a : EReal) (b : EReal) n =
    if 100 ≤ num x ((a + b) / 2) then ((num x ((a + b) / 2) : ℝ) : EReal) else n := by
  unfold k0_pay6
  dsimp only
  rw [pay3_apply, select_oge]

/-- The second bisection goes on while its count exceeds 124 and it has made fewer than 34 steps. -/
theorem goesOn_iff (n j : ℕ) : goesOn (F := Ideal) ((n : ℝ) : EReal) ((j : ℝ) : EReal) = 1#1 ↔ 124 < n ∧ j < 34 := by
  have e1 : (Scalar.cmpf (F := Ideal) (φ := .f32) .ogt ((n : ℝ) : EReal) (Scalar.ofBits (F := Ideal) .f32 0x42F80000#32)) = BitVec.ofBool (decide (124 < n)) := by
    show Ideal.cmp .ogt ((n : ℝ) : EReal) (Ideal.ofBits .f32 0x42F80000#32) = _
    rw [ofBits_124]
    unfold Ideal.cmp
    dsimp only
    congr 1
    rw [decide_eq_decide, EReal.coe_lt_coe_iff]
    exact_mod_cast Iff.rfl
  have e2 : (Scalar.cmpf (F := Ideal) (φ := .f32) .olt ((j : ℝ) : EReal) (Scalar.ofBits (F := Ideal) .f32 0x42080000#32)) = BitVec.ofBool (decide (j < 34)) := by
    show Ideal.cmp .olt ((j : ℝ) : EReal) (Ideal.ofBits .f32 0x42080000#32) = _
    rw [ofBits_34]
    unfold Ideal.cmp
    dsimp only
    congr 1
    rw [decide_eq_decide, EReal.coe_lt_coe_iff]
    exact_mod_cast Iff.rfl
  unfold goesOn
  rw [e1, e2]
  generalize hp : decide (124 < n) = p
  generalize hq : decide (j < 34) = q
  rw [← decide_eq_true_iff (p := 124 < n), ← decide_eq_true_iff (p := j < 34), hp, hq]
  revert p q
  intro p _ q _
  cases p <;> cases q <;> decide

/-- What the second bisection leaves: at or above the threshold, a hundred scores above it unless it never moved, and at most 124 of them
    unless the interval closed to 2⁻³⁴ around the hundredth score. -/
theorem search_good (k : ℕ) : ∀ (j : ℕ) (a b : ℝ), j + k = 34 → thr ≤ a → (a = thr ∨ 100 ≤ num x a) → num x b < 100 → b - a ≤ 1 / 2 ^ j →
    ∃ lo : ℝ, (search (F := Ideal) (k0_pay10 x) k (a : EReal) (b : EReal) ((num x a : ℝ) : EReal) ((j : ℝ) : EReal)).1 = (lo : EReal) ∧ thr ≤ lo ∧
      (lo = thr ∨ 100 ≤ num x lo) ∧ (num x lo ≤ 124 ∨ ∃ hi : ℝ, num x hi < 100 ∧ hi - lo ≤ 1 / 2 ^ 34) := by
  induction k with
  | zero =>
    intro j a b hj hta hn hb hab
    obtain rfl : j = 34 := by omega
    exact ⟨a, rfl, hta, hn, Or.inr ⟨b, hb, hab⟩⟩
  | succ k ih =>
    intro j a b hj hta hn hb hab
    rw [search]
    split_ifs with hg
    · obtain ⟨h124, hj34⟩ := (goesOn_iff _ _).mp hg
      have hlt : a < b := by
        by_contra hc
        have : num x a ≤ num x b := above_anti (flat (heat x)) (not_lt.mp hc)
        omega
      have hpow : (1 : ℝ) / 2 ^ (j + 1) = 1 / 2 ^ j / 2 := by rw [pow_succ]; ring
      rw [pay4_apply, pay5_apply, pay6_apply, show k0_pay7 (F := Ideal) ((j : ℝ) : EReal) = (((j + 1 : ℕ) : ℝ) : EReal) from by
        show ((j : ℝ) : EReal) + Ideal.ofBits .f32 0x3F800000#32 = _
        rw [ofBits_one]; push_cast; rfl]
      split_ifs with h
      · exact ih (j + 1) _ b (by omega) (by linarith) (Or.inr h) hb (by rw [hpow]; linarith)
      · exact ih (j + 1) a _ (by omega) hta hn (by omega) (by rw [hpow]; linarith)
    · refine ⟨a, rfl, hta, hn, Or.inl ?_⟩
      by_contra hc
      exact hg ((goesOn_iff _ _).mpr ⟨by omega, by omega⟩)

/-- The second bisection, started as the kernel starts it. -/
theorem search_start (k : ℕ) (hk : 0 + k = 34) :
    ∃ lo : ℝ, (search (F := Ideal) (k0_pay10 x) k (rowSearch x).1 (k0_pay15 x) (k0_pay16 x (rowSearch x).1) (counter 0)).1 = (lo : EReal) ∧ thr ≤ lo ∧
      (lo = thr ∨ 100 ≤ num x lo) ∧ (num x lo ≤ 124 ∨ ∃ hi : ℝ, num x hi < 100 ∧ hi - lo ≤ 1 / 2 ^ 34) := by
  obtain ⟨a, b, he, -, hta, hn⟩ := rowSearch_good x
  obtain ⟨g, hg, hmax, hg1⟩ := pay15_apply x
  have hc : k0_pay16 (F := Ideal) x (a : EReal) = ((num x a : ℝ) : EReal) := (count_from x a).trans (count_num x a)
  have h1 : (rowSearch (F := Ideal) x).1 = (a : EReal) := by rw [he]
  rw [h1, hg, hc, counter_ideal]
  refine search_good x k 0 a g hk hta hn ?_ ?_
  · have : num x g = 0 := by
      classical
      unfold num above
      rw [card_eq_zero, filter_eq_empty_iff]
      exact fun e _ => not_lt.mpr (hmax _ _ _)
    omega
  · have : (0 : ℝ) < thr := by unfold thr; norm_num
    rw [pow_zero]; linarith

/-- The kernel's threshold for a block. -/
theorem threshold_good : ∃ lo : ℝ, threshold (F := Ideal) x = (lo : EReal) ∧ thr ≤ lo ∧
      (lo = thr ∨ 100 ≤ num x lo) ∧ (num x lo ≤ 124 ∨ ∃ hi : ℝ, num x hi < 100 ∧ hi - lo ≤ 1 / 2 ^ 34) := by
  refine threshold_of x (fun v => ∃ lo : ℝ, v = (lo : EReal) ∧ thr ≤ lo ∧ (lo = thr ∨ 100 ≤ num x lo) ∧
    (num x lo ≤ 124 ∨ ∃ hi : ℝ, num x hi < 100 ∧ hi - lo ≤ 1 / 2 ^ 34)) (fun k hk => ?_)
  exact search_start x k ((Nat.zero_add k).trans hk)

/-- With a gap between the hundredth and the 125th score, or the latter at or below the threshold, at most 124 scores exceed the kernel's threshold,
    and the 125th does not. -/
theorem lo_good (e100 e125 : Fin 1310720) (h100 : rk (flat (heat x)) e100 = 99) (h125 : rk (flat (heat x)) e125 = 124)
    (hgap : flat (heat x) e125 ≤ thr ∨ 1 / 2 ^ 34 ≤ flat (heat x) e100 - flat (heat x) e125) :
    ∃ lo : ℝ, threshold (F := Ideal) x = (lo : EReal) ∧ thr ≤ lo ∧ (lo = thr ∨ 100 ≤ num x lo) ∧ num x lo ≤ 124 ∧ flat (heat x) e125 ≤ lo := by
  obtain ⟨lo, he, ht, hn, h⟩ := threshold_good x
  have key : num x lo ≤ 124 := by
    by_contra hc
    have h1 : lo < flat (heat x) e125 := (lt_iff_rk_lt _ _ _).mpr (by rw [h125]; exact not_le.mp hc)
    obtain ⟨hi, hhi, hw⟩ := h.resolve_left hc
    have h2 : flat (heat x) e100 ≤ hi := by
      by_contra hc'
      have : rk (flat (heat x)) e100 < num x hi := (lt_iff_rk_lt _ _ _).mp (not_le.mp hc')
      rw [h100] at this
      omega
    rcases hgap with hgap | hgap <;> linarith
  refine ⟨lo, he, ht, hn, key, ?_⟩
  by_contra hc
  have : rk (flat (heat x)) e125 < num x lo := (lt_iff_rk_lt _ _ _).mp (not_le.mp hc)
  rw [h125] at this
  omega

end Search
end Cert.Proof.Bisect

end
-- ==== Proof.Ranked.lean ====
module

public import proofs.«01_k».proof.Proof.SweepRead
public import proofs.«01_k».proof.Proof.Bisect

@[expose] public section

set_option maxRecDepth 16384

noncomputable section

namespace Cert.Proof.Ranked

open Idealize.ShloMosaic Cert.Proof.Rank Cert.Proof.Scores Cert.Proof.Slots Cert.Proof.RefValue Cert.Proof.Count Finset
open Cert.Proof.Sweeps Cert.KernelIdeal Cert.KernelIdeal.Gen Cert.Proof.KI

/-- The word of the literal 1/128. -/
theorem ofBits_inv128 : Ideal.ofBits .f32 0x3C000000#32 = ((1 / 128 : ℝ) : EReal) := by
  simp [Ideal.ofBits, Ideal.ieee, -EReal.coe_mul]; norm_num

/-- The word of the literal 128. -/
theorem ofBits_128 : Ideal.ofBits .f32 0x43000000#32 = ((128 : ℝ) : EReal) := by
  simp [Ideal.ofBits, Ideal.ieee, -EReal.coe_mul]; norm_num

/-- The word of the literal -1. -/
theorem ofBits_neg_one : Ideal.ofBits .f32 0xBF800000#32 = ((-1 : ℝ) : EReal) := by
  simp [Ideal.ofBits, Ideal.ieee, -EReal.coe_mul]; norm_num

/-- The conjunction of two conditions' bits. -/
theorem and_ofBool (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The disjunction of two conditions' bits. -/
theorem or_ofBool (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-! ### The compacted values and their ranks -/

/-- The scores by place, minus one beyond the number of marks, with that number as the kernel sums it. -/
theorem pay34_read (v53 : FVec Ideal S10240x128 .f32) (p : FVec Ideal S1x128 .f32) (k : Fin 128) : (k0_pay34 (F := Ideal) v53 p (ix2 0 k) : EReal) =
    if (FloatOps.sitofp (F := Ideal) FTy.f32 (BitVec.ofNat 32 k.val) : EReal) < (∑ r : Fin 10240, ∑ l : Fin 128, v53 (ix2 r l)) * Ideal.ofBits .f32 0x3C000000#32
      then p (ix2 0 k) else Ideal.ofBits .f32 0xBF800000#32 := by
  pointwise [k0_pay34]

/-- Places beyond the number of marks hold minus one. -/
theorem pay34_apply (v53 : FVec Ideal S10240x128 .f32) (p : FVec Ideal S1x128 .f32) (c : Fin 10240 → ℕ) (h53 : ∀ r l, v53 (ix2 r l) = ((c r : ℝ) : EReal)) (k : Fin 128) :
    (k0_pay34 (F := Ideal) v53 p (ix2 0 k) : EReal) = if k.val < ∑ r, c r then p (ix2 0 k) else ((-1 : ℝ) : EReal) := by
  rw [pay34_read]
  have hsum : (∑ r : Fin 10240, ∑ l : Fin 128, v53 (ix2 r l) : EReal) = (((∑ r, c r : ℕ) * 128 : ℝ) : EReal) := by
    refine (sum_congr rfl fun r _ => (sum_congr rfl fun l _ => h53 r l).trans (coe_sum _ _).symm).trans ((coe_sum _ _).symm.trans ?_)
    refine congrArg _ ?_
    rw [Nat.cast_sum, sum_mul]
    refine sum_congr rfl fun r _ => ?_
    rw [sum_const, card_univ, Fintype.card_fin, nsmul_eq_mul]
    push_cast
    ring
  rw [hsum, ofBits_inv128, ofBits_neg_one, sitofp_ofNat _ (by omega), ← EReal.coe_mul]
  refine if_congr ?_ rfl rfl
  rw [EReal.coe_lt_coe_iff, mul_assoc, show (128 : ℝ) * (1 / 128) = 1 by norm_num, mul_one, Nat.cast_lt]

/-- The kernel's one-hot matrix of ranks. -/
theorem pay35_apply (v53 : FVec Ideal S10240x128 .f32) (p : FVec Ideal S1x128 .f32) (V : Fin 128 → ℝ) (hV : ∀ l, k0_pay34 (F := Ideal) v53 p (ix2 0 l) = ((V l : ℝ) : EReal))
    (l k : Fin 128) : (k0_pay35 (F := Ideal) v53 p (ix2 l k) : EReal) = if rk V l = k.val then 1 else 0 := by
  classical
  unfold k0_pay35
  generalize k0_pay34 (F := Ideal) v53 p = W at hV ⊢
  pointwise
  refine (word_ind _).trans (if_congr ?_ rfl rfl)
  refine (Eq.congr_left (?_ : _ = ((rk V l : ℝ) : EReal))).trans ?_
  · refine (sum_congr rfl fun x _ => (?_ : _ = if Beats V x l then (1 : EReal) else 0)).trans ((sum_ind _).trans ?_)
    · rw [and_ofBool, or_ofBool]
      refine (word_ind _).trans (if_congr ?_ rfl rfl)
      unfold Beats
      rw [hV, hV, sitofp_ofNat _ (by omega), sitofp_ofNat _ (by omega), EReal.coe_lt_coe_iff, EReal.coe_eq_coe_iff, EReal.coe_lt_coe_iff, Nat.cast_lt, Fin.lt_def]
    · unfold rk
      congr 4
  · rw [sitofp_ofNat _ (by omega), EReal.coe_eq_coe_iff, Nat.cast_inj]

/-- A column of the one-hot matrix picks one entry. -/
theorem pick {P : FVec Ideal S128x128 .f32} {k l₀ : Fin 128} (hP : ∀ l, P (ix2 l k) = (if l = l₀ then 1 else 0 : EReal)) (g : Fin 128 → EReal) :
    (∑ l : Fin 128, P (ix2 l k) * g l : EReal) = g l₀ := by
  rw [sum_eq_single l₀ (fun l _ h => by rw [hP, if_neg h, zero_mul]) (fun h => absurd (mem_univ _) h), hP, if_pos rfl, one_mul]

/-- A sum against an indicator column, the indicator on the right, is the one term it picks. -/
theorem pick' {P : FVec Ideal S128x128 .f32} {k l₀ : Fin 128} (hP : ∀ l, P (ix2 l k) = (if l = l₀ then 1 else 0 : EReal)) (g : Fin 128 → EReal) :
    (∑ l : Fin 128, g l * P (ix2 l k) : EReal) = g l₀ := by
  rw [sum_eq_single l₀ (fun l _ h => by rw [hP, if_neg h, mul_zero]) (fun h => absurd (mem_univ _) h), hP, if_pos rfl, mul_one]

/-- The argument's block without its unit axis. -/
theorem pay8_apply (x : Vec Ideal S1x84x128x128 .f32) (c : Fin 84) (y l : Fin 128) : (k0_pay8 (F := Ideal) x (ix3 c y l) : EReal) = x (ix4 0 c y l) := by
  pointwise [k0_pay8]

/-- The indicator of ranks times the scores by place. -/
theorem pay36_apply (v53 : FVec Ideal S10240x128 .f32) (p : FVec Ideal S1x128 .f32) (l k : Fin 128) :
    (k0_pay36 (F := Ideal) v53 p (ix2 l k) : EReal) = k0_pay35 (F := Ideal) v53 p (ix2 l k) * k0_pay34 (F := Ideal) v53 p (ix2 0 l) := by
  unfold k0_pay36
  generalize k0_pay34 (F := Ideal) v53 p = V
  generalize k0_pay35 (F := Ideal) v53 p = P
  pointwise

section Fields
variable (v1 : FVec Ideal S84x128x128 .f32) (p q : FVec Ideal S1x128 .f32) (P : FVec Ideal S128x128 .f32) (k : Fin 128)

/-- The scores by rank sum a column of these products. -/
theorem pay37_apply : (k0_pay37 (F := Ideal) P (ix2 0 k) : EReal) = ∑ i, P (ix2 i k) := by
  pointwise [k0_pay37]

/-- The rows by rank: the column of rank `k` against the rows by place. -/
theorem pay38_apply : (k0_pay38 (F := Ideal) p P (ix2 0 k) : EReal) = ∑ i, P (ix2 i k) * p (ix2 0 i) := by
  pointwise [k0_pay38]

/-- The lanes by rank: the column of rank `k` against the lanes by place. -/
theorem pay39_apply : (k0_pay39 (F := Ideal) p P (ix2 0 k) : EReal) = ∑ i, P (ix2 i k) * p (ix2 0 i) := by
  pointwise [k0_pay39]

/-- The class by rank is the row over 128, rounded down. -/
theorem pay40_apply : (k0_pay40 (F := Ideal) p P (ix2 0 k) : EReal) = Ideal.liftRound Int.floor (k0_pay38 (F := Ideal) p P (ix2 0 k) * Ideal.ofBits .f32 0x3C000000#32) := by
  unfold k0_pay40
  generalize k0_pay38 (F := Ideal) p P = w
  pointwise

/-- The image row by rank is the row less 128 times the class. -/
theorem pay41_apply : (k0_pay41 (F := Ideal) p P (ix2 0 k) : EReal) =
    k0_pay38 (F := Ideal) p P (ix2 0 k) - k0_pay40 (F := Ideal) p P (ix2 0 k) * Ideal.ofBits .f32 0x43000000#32 := by
  unfold k0_pay41
  generalize k0_pay40 (F := Ideal) p P = u
  generalize k0_pay38 (F := Ideal) p P = w
  pointwise

/-- The lane selector is one where the lane by rank is `y`, else zero. -/
theorem pay43_apply (y : Fin 128) : (k0_pay43 (F := Ideal) p P (ix2 y k) : EReal) = if k0_pay39 (F := Ideal) p P (ix2 0 k) = ((y.val : ℝ) : EReal) then 1 else 0 := by
  unfold k0_pay43
  generalize k0_pay39 (F := Ideal) p P = u
  pointwise [k0_pay42]
  rw [sitofp_ofNat _ (by omega)]
  exact word_ind _

/-- The row selector is one where the image row by rank is `y`, else zero. -/
theorem pay44_apply (y : Fin 128) : (k0_pay44 (F := Ideal) p P (ix2 y k) : EReal) = if k0_pay41 (F := Ideal) p P (ix2 0 k) = ((y.val : ℝ) : EReal) then 1 else 0 := by
  unfold k0_pay44
  generalize k0_pay41 (F := Ideal) p P = u
  pointwise [k0_pay42]
  rw [sitofp_ofNat _ (by omega)]
  exact word_ind _

/-- Channel 80 against the two indicators. -/
theorem pay45_apply : (k0_pay45 (F := Ideal) v1 p q P (ix2 0 k) : EReal) =
    ∑ y, (∑ l, v1 (ix3 80 y l) * k0_pay43 (F := Ideal) q P (ix2 l k)) * k0_pay44 (F := Ideal) p P (ix2 y k) := by
  unfold k0_pay45
  generalize k0_pay44 (F := Ideal) p P = u
  generalize k0_pay43 (F := Ideal) q P = w
  pointwise

/-- Channel 81 against the two indicators. -/
theorem pay46_apply : (k0_pay46 (F := Ideal) v1 p q P (ix2 0 k) : EReal) =
    ∑ y, (∑ l, v1 (ix3 81 y l) * k0_pay43 (F := Ideal) q P (ix2 l k)) * k0_pay44 (F := Ideal) p P (ix2 y k) := by
  unfold k0_pay46
  generalize k0_pay44 (F := Ideal) p P = u
  generalize k0_pay43 (F := Ideal) q P = w
  pointwise

/-- Channel 82 against the two indicators. -/
theorem pay47_apply : (k0_pay47 (F := Ideal) v1 p q P (ix2 0 k) : EReal) =
    ∑ y, (∑ l, v1 (ix3 82 y l) * k0_pay43 (F := Ideal) q P (ix2 l k)) * k0_pay44 (F := Ideal) p P (ix2 y k) := by
  unfold k0_pay47
  generalize k0_pay44 (F := Ideal) p P = u
  generalize k0_pay43 (F := Ideal) q P = w
  pointwise

variable (a139 a151 a154 a157 a175 a181 a187 : FVec Ideal S1x128 .f32) (v164 v169 : FVec Ideal S128x128 .f32) (f : Fin 6)

/-- The six reported rows, each kept where the score passes the threshold and the rank is below a hundred. -/
theorem pay1_apply : (k0_pay1 (F := Ideal) v1 a139 a151 a154 a157 v164 v169 a175 a181 a187 (ix3 0 f k) : EReal) =
    (![a139 (ix2 0 k), a154 (ix2 0 k), a151 (ix2 0 k) + a175 (ix2 0 k), a157 (ix2 0 k) + a181 (ix2 0 k), a187 (ix2 0 k),
      ∑ y, (∑ l, v1 (ix3 83 y l) * v164 (ix2 l k)) * v169 (ix2 y k)] : Fin 6 → EReal) f *
    (if ((thr : ℝ) : EReal) < a139 (ix2 0 k) ∧ k.val < 100 then 1 else 0) := by
  pointwise [k0_pay1]
  simp only [and_ofBool, word_ind, ofBits_thr, Bisect.ofBits_100, show ∀ (n : ℕ) (h : n < 1), (⟨n, h⟩ : Fin 1) = 0 from fun _ _ => Subsingleton.elim _ _,
    sitofp_ofNat _ (Nat.lt_trans (Fin.isLt _) (by norm_num : 128 < 2 ^ 31)), EReal.coe_lt_coe_iff, show ((k.val : ℝ) < (100 : ℝ)) = (k.val < 100) from propext (by exact_mod_cast Iff.rfl)]
  match f with
  | ⟨0, _⟩ => rfl
  | ⟨1, _⟩ => rfl
  | ⟨2, _⟩ => rfl
  | ⟨3, _⟩ => rfl
  | ⟨4, _⟩ => rfl
  | ⟨5, _⟩ => rfl

end Fields

section At
variable {p q : FVec Ideal S1x128 .f32} {P : FVec Ideal S128x128 .f32} {k l₀ : Fin 128} (hP : ∀ l, P (ix2 l k) = (if l = l₀ then 1 else 0 : EReal))
  {r : Fin 10240} {l : Fin 128} (hp : p (ix2 0 l₀) = ((r.val : ℝ) : EReal)) (hq : q (ix2 0 l₀) = ((l.val : ℝ) : EReal))

include hP hp in
/-- Where the row by rank is `r`, the class is `r / 128`. -/
theorem pay40_at : (k0_pay40 (F := Ideal) p P (ix2 0 k) : EReal) = (((r.val / 128 : ℕ) : ℝ) : EReal) := by
  rw [pay40_apply, pay38_apply, pick hP (fun i => p (ix2 0 i)), hp, ofBits_inv128, ← EReal.coe_mul, Ideal.liftRound_coe]
  have : ⌊(r.val : ℝ) * (1 / 128)⌋ = ((r.val / 128 : ℕ) : ℤ) := by
    rw [Int.floor_eq_iff]
    have h1 : 128 * (r.val / 128) ≤ r.val := Nat.mul_div_le _ _
    have h2 : r.val < 128 * (r.val / 128) + 128 := by omega
    have h1' : (128 : ℝ) * ((r.val / 128 : ℕ) : ℝ) ≤ (r.val : ℝ) := by exact_mod_cast h1
    have h2' : (r.val : ℝ) < 128 * ((r.val / 128 : ℕ) : ℝ) + 128 := by exact_mod_cast h2
    constructor
    · rw [Int.cast_natCast]; linarith
    · rw [Int.cast_natCast]; linarith
  rw [this, Int.cast_natCast]

include hP hp in
/-- Where the row by rank is `r`, the image row is `r % 128`. -/
theorem pay41_at : (k0_pay41 (F := Ideal) p P (ix2 0 k) : EReal) = (((r.val % 128 : ℕ) : ℝ) : EReal) := by
  rw [pay41_apply, pay40_at hP hp, pay38_apply, pick hP (fun i => p (ix2 0 i)), hp, ofBits_128, ← EReal.coe_mul, ← EReal.coe_sub]
  have h : r.val = 128 * (r.val / 128) + r.val % 128 := by omega
  have h' : (r.val : ℝ) = 128 * ((r.val / 128 : ℕ) : ℝ) + ((r.val % 128 : ℕ) : ℝ) := by exact_mod_cast h
  refine congrArg _ ?_
  linarith

include hP hq in
/-- Where the lane by rank is `l`, the indicator of lanes picks `l`. -/
theorem pay43_at (y : Fin 128) : k0_pay43 (F := Ideal) q P (ix2 y k) = (if y = l then 1 else 0 : EReal) := by
  rw [pay43_apply, pay39_apply, pick hP (fun i => q (ix2 0 i)), hq]
  refine if_congr ?_ rfl rfl
  rw [EReal.coe_eq_coe_iff, Nat.cast_inj, Fin.ext_iff]
  exact eq_comm

include hP hp in
/-- Where the row by rank is `r`, the indicator of image rows picks `r % 128`. -/
theorem pay44_at (y : Fin 128) : k0_pay44 (F := Ideal) p P (ix2 y k) = (if y = ⟨r.val % 128, by omega⟩ then 1 else 0 : EReal) := by
  rw [pay44_apply, pay41_at hP hp]
  refine if_congr ?_ rfl rfl
  rw [EReal.coe_eq_coe_iff, Nat.cast_inj, Fin.ext_iff]
  exact eq_comm

include hP hp hq in
/-- The two one-hot products pick the image's entry. -/
theorem image_at (a : Fin 128 → Fin 128 → EReal) :
    (∑ y, (∑ i, a y i * k0_pay43 (F := Ideal) q P (ix2 i k)) * k0_pay44 (F := Ideal) p P (ix2 y k) : EReal) = a ⟨r.val % 128, by omega⟩ l := by
  rw [pick' (pay44_at hP hp) (fun y => ∑ i, a y i * k0_pay43 (F := Ideal) q P (ix2 i k)), pick' (pay43_at hP hq) (fun i => a _ i)]

end At

section Out
variable (x : Vec Ideal S1x84x128x128 .f32) (lo : EReal) (p : FVec Ideal S1x128 .f32 × FVec Ideal S1x128 .f32 × FVec Ideal S1x128 .f32) (V : Fin 128 → ℝ)
  (hV : ∀ l, k0_pay34 (F := Ideal) (k0_pay23 (k0_pay18 x lo)) p.1 (ix2 0 l) = ((V l : ℝ) : EReal)) {k l₀ : Fin 128} (hk : rk V l₀ = k.val)

include hV hk in
/-- The column of rank `k` picks the place `l₀` of that rank. -/
theorem col (l : Fin 128) : k0_pay35 (F := Ideal) (k0_pay23 (k0_pay18 x lo)) p.1 (ix2 l k) = (if l = l₀ then 1 else 0 : EReal) := by
  rw [pay35_apply _ _ V hV, ← hk]
  exact if_congr ⟨fun h => rk_injective V h, fun h => by rw [h]⟩ rfl rfl

include hV hk in
/-- The score of rank `k` is the one in place `l₀`. -/
theorem val_at : (k0_pay37 (F := Ideal) (k0_pay36 (k0_pay23 (k0_pay18 x lo)) p.1) (ix2 0 k) : EReal) = ((V l₀ : ℝ) : EReal) := by
  rw [pay37_apply]
  refine (sum_congr rfl fun i _ => pay36_apply _ _ i k).trans ((pick (col x lo p V hV hk) _).trans (hV l₀))

include hV hk in
/-- A place of rank below a hundred whose value passes the threshold is reported with its row and lane. -/
theorem ranked_at (hk100 : k.val < 100) (r : Fin 10240) (l : Fin 128) (hr : p.2.1 (ix2 0 l₀) = ((r.val : ℝ) : EReal)) (hl : p.2.2 (ix2 0 l₀) = ((l.val : ℝ) : EReal)) (f : Fin 6) :
    (ranked (F := Ideal) x lo p (ix3 0 f k) : EReal) = if thr < V l₀ then entry (fun c y i => x (ix4 0 c y i)) (V l₀) r l f else 0 := by
  have hP := col x lo p V hV hk
  have hv := val_at x lo p V hV hk
  unfold ranked
  generalize k0_pay35 (F := Ideal) (k0_pay23 (k0_pay18 x lo)) p.1 = P at hP ⊢
  generalize k0_pay37 (F := Ideal) (k0_pay36 (k0_pay23 (k0_pay18 x lo)) p.1) = v139 at hv ⊢
  rw [pay1_apply, hv, pay40_at hP hr, pay41_at hP hr, pay39_apply, pick hP (fun i => p.2.2 (ix2 0 i)), hl, pay45_apply, pay46_apply, pay47_apply,
    image_at hP hr hl, image_at hP hr hl, image_at hP hr hl, image_at hP hr hl]
  simp only [pay8_apply, EReal.coe_lt_coe_iff]
  by_cases h : thr < V l₀
  · rw [if_pos ⟨h, hk100⟩, if_pos h, mul_one]
    rfl
  · rw [if_neg fun h' => h h'.1, if_neg h, mul_zero]

include hV hk in
/-- A place whose value does not pass the threshold is reported as zero. -/
theorem ranked_zero (h : V l₀ ≤ thr) (f : Fin 6) : (ranked (F := Ideal) x lo p (ix3 0 f k) : EReal) = 0 := by
  have hv := val_at x lo p V hV hk
  unfold ranked
  rw [pay1_apply, hv, if_neg fun h' => absurd (EReal.coe_lt_coe_iff.mp h'.1) (not_lt.mpr h), mul_zero]

end Out

end Cert.Proof.Ranked
end
-- ==== Proof.Sweeps.lean ====
module

public import proofs.«01_k».proof.Proof.SweepRead

@[expose] public section

set_option maxRecDepth 16384

noncomputable section

namespace Cert.Proof.Sweeps

open Idealize.ShloMosaic Cert.Proof.Rank Cert.Proof.Scores Cert.Proof.Slots Cert.Proof.RefValue Cert.Proof.Count Finset
open Cert.KernelIdeal Cert.KernelIdeal.Gen Cert.Proof.KI

/-- A fold whose steps each add to a reading adds up to the reading of the start and the sum. -/
theorem foldl_add {α β : Type} (π : α → EReal) (g : α → β → α) (f : β → EReal) (h : ∀ a t, π (g a t) = π a + f t) (l : List β) (a : α) :
    π (l.foldl g a) = π a + (l.map f).sum := by
  induction l generalizing a with
  | nil => simp
  | cons t l ih => rw [List.foldl_cons, ih, h, List.map_cons, List.sum_cons, add_assoc]

section
variable (x : Vec Ideal S1x84x128x128 .f32) (lo : ℝ)

/-- The scores above the threshold. -/
abbrev Mark (r : Fin 10240) (l : Fin 128) : Prop := lo < rows (heat x) r l

/-- The kernel's marks are those of the scores above the level. -/
theorem marks : Marks (Mark x lo) (k0_pay18 (F := Ideal) x (lo : EReal)) := fun r l => by
  rw [pay18_apply]

/-- What the sweeps begin with is read off these marks. -/
theorem ready : Ready (Mark x lo) (rows (heat x)) (k0_pay10 (F := Ideal) x) (k0_pay19 (F := Ideal) (iota .tc S10240x128 32 [1] iota_S10240x128_d1_w32))
    (k0_pay22 (F := Ideal) (k0_pay18 x (lo : EReal))) (k0_pay23 (F := Ideal) (k0_pay18 x (lo : EReal))) (k0_pay17 (F := Ideal) x (lo : EReal))
    (k0_pay21 (F := Ideal)) (k0_pay24 (F := Ideal) (k0_pay18 x (lo : EReal))) where
  val := Bisect.pay10_apply x
  mark r l := (pay17_apply x lo r l).trans (by congr)
  lane := pay19_apply
  one := pay21_apply
  excl := pay22_apply (marks x lo)
  cnt := pay23_apply (marks x lo)
  base := pay24_apply (marks x lo)

variable {x lo}

/-- What the sweeps leave in the place of a mark: its score, its row and its lane. -/
theorem sweeps_at (hcnt : ∀ r, cnt (Mark x lo) r ≤ 4) {r : Fin 10240} {l : Fin 128} (h : Mark x lo r l) (k : Fin 128) (hk : k.val = slot (Mark x lo) r l) :
    ((sweeps (F := Ideal) x (lo : EReal)).1 (ix2 0 k) : EReal) = ((rows (heat x) r l : ℝ) : EReal) ∧
    ((sweeps (F := Ideal) x (lo : EReal)).2.1 (ix2 0 k) : EReal) = ((r.val : ℝ) : EReal) ∧
    ((sweeps (F := Ideal) x (lo : EReal)).2.2 (ix2 0 k) : EReal) = ((l.val : ℝ) : EReal) := by
  classical
  have R := ready x lo
  unfold sweeps
  rw [Scf.fold_eq]
  refine ⟨?_, ?_, ?_⟩
  · refine (foldl_add (fun p : FVec Ideal S1x128 .f32 × FVec Ideal S1x128 .f32 × FVec Ideal S1x128 .f32 => (p.1 (ix2 0 k) : EReal)) _ _
      (fun a t => pay31_apply R t a.1 k) _ _).trans ?_
    dsimp only
    rw [show ((k0_pay25 (F := Ideal)) (ix2 0 k) : EReal) = 0 from by pointwise [k0_pay25], zero_add, ← Fin.sum_univ_def, hk]
    exact sum_place hcnt h _ (fun t ht => sum_lane h _ ht)
  · refine (foldl_add (fun p : FVec Ideal S1x128 .f32 × FVec Ideal S1x128 .f32 × FVec Ideal S1x128 .f32 => (p.2.1 (ix2 0 k) : EReal)) _ _
      (fun a t => pay32_apply R t a.2.1 k) _ _).trans ?_
    dsimp only
    rw [show ((k0_pay26 (F := Ideal)) (ix2 0 k) : EReal) = 0 from by pointwise [k0_pay26], zero_add, ← Fin.sum_univ_def, hk]
    exact sum_place hcnt h (fun _ r => ((r.val : ℝ) : EReal)) (fun t ht => rfl)
  · refine (foldl_add (fun p : FVec Ideal S1x128 .f32 × FVec Ideal S1x128 .f32 × FVec Ideal S1x128 .f32 => (p.2.2 (ix2 0 k) : EReal)) _ _
      (fun a t => pay33_apply R t a.2.2 k) _ _).trans ?_
    dsimp only
    rw [show ((k0_pay27 (F := Ideal)) (ix2 0 k) : EReal) = 0 from by pointwise [k0_pay27], zero_add, ← Fin.sum_univ_def, hk]
    exact sum_place hcnt h _ (fun t ht => sum_lane h _ ht)

end

end Cert.Proof.Sweeps
end
-- ==== Proof.Link.lean ====
module

public import proofs.«01_k».proof.Proof.Ranked
public import proofs.«01_k».proof.Proof.Sweeps

@[expose] public section

set_option maxRecDepth 16384

noncomputable section

namespace Cert.Proof.Link

open Idealize.ShloMosaic Cert.Proof.Rank Cert.Proof.Scores Cert.Proof.Slots Cert.Proof.RefValue Cert.Proof.Count Finset
open Cert.Proof.Sweeps Cert.Proof.Ranked Cert.KernelIdeal Cert.KernelIdeal.Gen Cert.Proof.KI

/-! ### The compacted order is the flat order -/

section Order
variable (X : Fin 80 → Fin 128 → Fin 128 → EReal) (lo : ℝ)

/-- The place of a position among the scores above `lo`. -/
def place (e : Fin 1310720) : ℕ := slot (fun r l => lo < rows X r l) (row e) (lane e)

open Classical in
/-- The score in a place, or minus one where there is none. -/
def inPlace (k : Fin 128) : ℝ := if h : ∃ e, lo < flat X e ∧ place X lo e = k.val then flat X h.choose else -1

variable {X lo}

/-- Of two positions above the level the earlier has the smaller place. -/
theorem place_lt {e e' : Fin 1310720} (h : lo < flat X e) (hlt : e < e') : place X lo e < place X lo e' :=
  slot_lt (I := fun r l => lo < rows X r l) h (by rw [fl_row_lane, fl_row_lane]; exact hlt)

/-- Different positions above the level have different places. -/
theorem place_inj {e e' : Fin 1310720} (h : lo < flat X e) (h' : lo < flat X e') (he : place X lo e = place X lo e') : e = e' := by
  rcases lt_trichotomy e e' with hl | hl | hl
  · exact absurd he (place_lt h hl).ne
  · exact hl
  · exact absurd he.symm (place_lt h' hl).ne

/-- A place is below the number of positions above the level. -/
theorem place_lt_total {e : Fin 1310720} (h : lo < flat X e) : place X lo e < total fun r l => lo < rows X r l :=
  slot_lt_total (I := fun r l => lo < rows X r l) h

/-- The score in a position's place is that position's. -/
theorem inPlace_at {e : Fin 1310720} (h : lo < flat X e) (k : Fin 128) (hk : place X lo e = k.val) : inPlace X lo k = flat X e := by
  have hex : ∃ e, lo < flat X e ∧ place X lo e = k.val := ⟨e, h, hk⟩
  unfold inPlace
  rw [dif_pos hex, place_inj hex.choose_spec.1 h (hex.choose_spec.2.trans hk.symm)]

/-- A place that holds a score above the level is some position's. -/
theorem exists_of_lt (hlo : -1 ≤ lo) (k : Fin 128) (h : lo < inPlace X lo k) : ∃ e, lo < flat X e ∧ place X lo e = k.val := by
  by_contra hc
  unfold inPlace at h
  rw [dif_neg hc] at h
  linarith

/-- A score above `lo` has the same rank among the places as among all scores. -/
theorem rank_place (hlo : -1 ≤ lo) (ht : (total fun r l => lo < rows X r l) ≤ 128) {e : Fin 1310720} (h : lo < flat X e) (k : Fin 128) (hk : place X lo e = k.val) :
    rk (inPlace X lo) k = rk (flat X) e := by
  have hp : ∀ e, lo < flat X e → place X lo e < 128 := fun e h => (place_lt_total h).trans_le ht
  have hφ : ∀ e (_ : lo < flat X e), ((⟨place X lo e % 128, Nat.mod_lt _ (by norm_num)⟩ : Fin 128).val) = place X lo e := fun e h => Nat.mod_eq_of_lt (hp e h)
  have := rk_eq_of_layout (f := flat X) (g := inPlace X lo) (lo := lo) (φ := fun e => ⟨place X lo e % 128, Nat.mod_lt _ (by norm_num)⟩)
    (fun e e' h h' hlt => by rw [Fin.lt_def, hφ e h, hφ e' h']; exact place_lt h hlt)
    (fun e h => inPlace_at h _ (hφ e h).symm)
    (fun j hj => by
      obtain ⟨e, he, hj'⟩ := exists_of_lt hlo j hj
      exact ⟨e, he, Fin.ext ((hφ e he).trans hj')⟩) h
  rw [← this]
  congr 1
  exact Fin.ext (hk.symm.trans (hφ e h).symm)

end Order

section Block
variable (x : Vec Ideal S1x84x128x128 .f32)

/-- What the kernel's block holds at rank `k` below a hundred: the entry of the position of that rank where its score passes the threshold, else zero. -/
theorem block_apply (e100 e125 : Fin 1310720) (h100 : rk (flat (heat x)) e100 = 99) (h125 : rk (flat (heat x)) e125 = 124)
    (hgap : flat (heat x) e125 ≤ thr ∨ 1 / 2 ^ 34 ≤ flat (heat x) e100 - flat (heat x) e125)
    (hcrowd : ∀ r, cnt (fun r l => max (flat (heat x) e125) thr < rows (heat x) r l) r ≤ 4)
    (k : Fin 128) (hk : k.val < 100) (e : Fin 1310720) (he : rk (flat (heat x)) e = k.val) (f : Fin 6) :
    (outBlk (F := Ideal) x (ix3 0 f k) : EReal) =
      if thr < flat (heat x) e then entry (fun c y l => x (ix4 0 c y l)) (flat (heat x) e) (row e) (lane e) f else 0 := by
  classical
  obtain ⟨lo, hlo, hthr, hn, h124, he125⟩ := Bisect.lo_good x e100 e125 h100 h125 hgap
  have hthr0 : (0 : ℝ) < thr := by unfold thr; norm_num
  have hlo1 : -1 ≤ lo := by linarith
  have htot : (total fun r l => lo < rows (heat x) r l) ≤ 124 := by
    rw [← above_flat]; exact h124
  have hcnt : ∀ r, cnt (Mark x lo) r ≤ 4 := fun r => by
    refine le_trans ?_ (hcrowd r)
    unfold cnt
    refine card_le_card fun l hl => ?_
    rw [mem_filter] at hl ⊢
    exact ⟨mem_univ _, lt_of_le_of_lt (max_le he125 hthr) hl.2⟩
  have hsw : ∀ (e : Fin 1310720) (_ : lo < flat (heat x) e) (k : Fin 128) (_ : place (heat x) lo e = k.val), _ := fun e h k hk =>
    sweeps_at (x := x) (lo := lo) hcnt (r := row e) (l := lane e) h k hk.symm
  have hV : ∀ l, k0_pay34 (F := Ideal) (k0_pay23 (k0_pay18 x (lo : EReal))) (sweeps (F := Ideal) x (lo : EReal)).1 (ix2 0 l) = ((inPlace (heat x) lo l : ℝ) : EReal) := by
    intro l
    rw [pay34_apply _ _ (cnt (Mark x lo)) (pay23_apply (marks x lo))]
    split_ifs with h
    · obtain ⟨r, i, hI, hs⟩ := exists_slot (I := Mark x lo) h
      have h1 : lo < flat (heat x) (fl r i) := by unfold flat; rw [row_fl, lane_fl]; exact hI
      have h2 : place (heat x) lo (fl r i) = l.val := by unfold place; rw [row_fl, lane_fl]; exact hs
      rw [inPlace_at h1 l h2]
      exact (hsw _ h1 l h2).1
    · have : ¬ ∃ e, lo < flat (heat x) e ∧ place (heat x) lo e = l.val := by
        rintro ⟨e, he, hl⟩
        exact h (hl ▸ place_lt_total he)
      unfold inPlace
      rw [dif_neg this]
  have hout : outBlk (F := Ideal) x = ranked x (lo : EReal) (sweeps x (lo : EReal)) := by
    unfold outBlk
    rw [hlo]
  rw [hout]
  by_cases hlt : lo < flat (heat x) e
  · have hp : place (heat x) lo e < 128 := (place_lt_total hlt).trans_le (htot.trans (by norm_num))
    obtain ⟨-, hr, hl⟩ := hsw e hlt ⟨_, hp⟩ rfl
    have hrk := rank_place hlo1 (htot.trans (by norm_num)) hlt ⟨_, hp⟩ rfl
    rw [ranked_at x _ _ _ hV (hrk.trans he) hk (row e) (lane e) hr hl f, inPlace_at hlt ⟨_, hp⟩ rfl]
  · have hlothr : lo = thr := hn.resolve_right fun h => hlt ((lt_iff_rk_lt _ _ _).mpr (by rw [he]; exact lt_of_lt_of_le hk h))
    obtain ⟨l₀, hl₀⟩ := exists_rk (inPlace (heat x) lo) k
    rw [if_neg (by rw [← hlothr]; exact hlt)]
    refine ranked_zero x _ _ _ hV hl₀ ?_ f
    rw [← hlothr]
    by_contra hc
    obtain ⟨e', he', hp⟩ := exists_of_lt hlo1 l₀ (not_le.mp hc)
    have hrk := rank_place hlo1 (htot.trans (by norm_num)) he' l₀ hp
    have : e' = e := rk_injective _ (hrk.symm.trans (hl₀.trans he.symm))
    exact hlt (this ▸ he')

end Block
end Cert.Proof.Link
end
-- ==== Proof.PreFacts.lean ====
module

public import proofs.«01_k».proof.Pre_separated
public import Idealize.ShloMosaic.Lib.Affine
public import Idealize.ShloMosaic.Lib.Decide

@[expose] public section

set_option Elab.async false

namespace Cert.Proof.Pre

open Idealize.ShloMosaic Cert.Pre_separated

/-- The side conditions of the precondition: its shapes fit its operations. -/
instance facts : Cert.Pre_separated.Facts where
  slices_S8x84x128x128_S8x80x128x128_0_0_0_0 := by decide
  bcast_S_S8x80x128x128 := by decide
  bcast_S_S_ := by decide
  reduceWindows_S8x80x128x128_S8x80x128x128_w1s1p0_0_w1s1p0_0_w3s1p1_1_w3s1p1_1 := by decide
  h_S_ := by decide
  shapeCasts_S8x80x128x128_S8x1310720 := by decide
  sliceFits_S8x1310720_S8x125 := by decide
  slices_S8x125_S8x1_0_99 := by decide
  shapeCasts_S8x1_S8 := by decide
  slices_S8x125_S8x1_0_124 := by decide
  bcast_S_S8 := by decide
  bcast_S8_S8x1x1x1_0 := by decide
  bcast_S8x1x1x1_S8x80x128x128_0_1_2_3 := by decide
  reducesTo_S8x80x128x128_S8x80x128_d3 := by decide
  bcast_S8_S8x1x1_0 := by decide
  bcast_S_S8x80x128 := by decide
  bcast_S8x1x1_S8x80x128_0_1_2 := by decide

end Cert.Proof.Pre

end
-- ==== Proof.PreRead.lean ====
module

public import proofs.«01_k».proof.Proof.Count
public import proofs.«01_k».proof.Proof.PreFacts

@[expose] public section

set_option maxRecDepth 16384

noncomputable section

namespace Cert.Proof.PreRead

open Idealize.ShloMosaic Cert.Proof.Rank Cert.Proof.Scores Cert.Proof.Slots Cert.Proof.RefValue Cert.Proof.Count Finset
open Cert.Pre_separated Cert.Pre_separated.Facts

variable [Cert.Pre_separated.Facts]

/-- The word of the literal 4. -/
theorem ofBits_four : Ideal.ofBits .f32 0x40800000#32 = ((4 : ℝ) : EReal) := by
  simp [Ideal.ofBits, Ideal.ieee, -EReal.coe_mul]; norm_num

/-- The word of the literal 2 to the power of -34. -/
theorem ofBits_gap : Ideal.ofBits .f32 0x2E800000#32 = ((1 / 2 ^ 34 : ℝ) : EReal) := by
  simp [Ideal.ofBits, Ideal.ieee, -EReal.coe_mul]; norm_num

/-- The precondition's bit is one exactly where one of two conditions and a third hold. -/
theorem bits_iff (p q r : Prop) [Decidable p] [Decidable q] [Decidable r] :
    IntOp.andi (IntOp.ori (BitVec.ofBool (decide p)) (BitVec.ofBool (decide q))) (BitVec.ofBool (decide r)) = 1#1 ↔ (p ∨ q) ∧ r := by
  by_cases hp : p <;> by_cases hq : q <;> by_cases hr : r <;> simp [hp, hq, hr, IntOp.andi, IntOp.ori]

/-- A condition's bit as a number is one or zero. -/
theorem bit_ind (p : Prop) [Decidable p] : (FloatOps.uitofp (F := Ideal) FTy.f32 (BitVec.ofBool (decide p)) : EReal) = if p then 1 else 0 := by
  show (((BitVec.ofBool (decide p)).toNat : ℝ) : EReal) = _
  by_cases h : p <;> simp [h]

/-- What the last part of the precondition says of an image and a line. -/
theorem part_iff (v11 : FVec Ideal S8x80x128x128 .f32) (v14 v16 v17 : FVec Ideal S8 .f32) (b : Fin 8) (c : Fin 80) (y : Fin 128) (h17 : v17 (ix1 b) = ((thr : ℝ) : EReal)) :
    fn_part1 (F := Ideal) v11 v14 v16 v17 (ix3 b c y) = 1#1 ↔ ((v16 (ix1 b) : EReal) ≤ ((thr : ℝ) : EReal) ∨ ((1 / 2 ^ 34 : ℝ) : EReal) ≤ v14 (ix1 b) - v16 (ix1 b)) ∧
      (∑ l : Fin 128, if max (v16 (ix1 b)) ((thr : ℝ) : EReal) < v11 (ix4 b c y l) then (1 : EReal) else 0) ≤ ((4 : ℝ) : EReal) := by
  pointwise [fn_part1]
  rw [h17, bits_iff, ofBits_gap, ofBits_thr, ofBits_four]
  refine and_congr Iff.rfl (iff_of_eq (congrArg (· ≤ ((4 : ℝ) : EReal)) ?_))
  exact sum_congr rfl fun l _ => bit_ind _

/-- The precondition's scores before suppression are the logistic function of the class channels. -/
theorem logistic_apply (x0 : FVec Ideal S8x84x128x128 .f32) (b : Fin 8) (c : Fin 80) (y l : Fin 128) :
    (Host.divf (F := Ideal) (broadcastInDim S8x80x128x128 ![] bcast_S_S8x80x128x128 (constant S_ .f32 0x3F800000#32))
      (addf (broadcastInDim S8x80x128x128 ![] bcast_S_S8x80x128x128 (constant S_ .f32 0x3F800000#32))
        (Host.exp (Host.negf (extractStridedSlice S8x80x128x128 ![0, 0, 0, 0] x0 slices_S8x84x128x128_S8x80x128x128_0_0_0_0)))) (ix4 b c y l) : EReal) =
      Ideal.logistic (heat8 x0 b c y l) := by
  pointwise [heat8]
  rfl

/-- Its scores reshaped to one axis are the scores in the order of positions. -/
theorem flat_apply (X : Fin 80 → Fin 128 → Fin 128 → EReal) (w : FVec Ideal S8x80x128x128 .f32) (b : Fin 8)
    (hw : ∀ c y l, w (ix4 b c y l) = ((score X c y l : ℝ) : EReal)) (e : Fin 1310720) :
    (shapeCast S8x1310720 w shapeCasts_S8x80x128x128_S8x1310720 (ix2 b e) : EReal) = ((flat X e : ℝ) : EReal) := by
  pointwise
  rw [hw]
  unfold flat rows
  congr 2 <;> simp only [Fin.mk.injEq] <;> omega

/-- The entry of rank 99. -/
theorem nth99 (w : FVec Ideal S8x125 .f32) (b : Fin 8) :
    (shapeCast S8 (extractStridedSlice S8x1 ![0, 99] w slices_S8x125_S8x1_0_99) shapeCasts_S8x1_S8 (ix1 b) : EReal) = w (ix2 b 99) := by
  pointwise

/-- The entry of rank 124. -/
theorem nth124 (w : FVec Ideal S8x125 .f32) (b : Fin 8) :
    (shapeCast S8 (extractStridedSlice S8x1 ![0, 124] w slices_S8x125_S8x1_0_124) shapeCasts_S8x1_S8 (ix1 b) : EReal) = w (ix2 b 124) := by
  pointwise

/-- The confidence as the precondition reads it. -/
theorem tenth (b : Fin 8) : (broadcastInDim S8 ![] bcast_S_S8 (constant (F := Ideal) S_ .f32 0x3DCCCCCD#32) (ix1 b) : EReal) = ((thr : ℝ) : EReal) := by
  pointwise
  exact ofBits_thr

/-- The value with which its pooling begins is minus infinity. -/
theorem ninf (i : S_.Idx) : (broadcastInDim S_ ![] bcast_S_S_ (constant (F := Ideal) S_ .f32 0xFF800000#32) i : EReal) = ⊥ := by
  pointwise
  exact ofBits_ninf

/-- What the precondition says of an image: the 125th score is at or below the threshold or well below the hundredth, and no line of a heat map
    holds more than four scores above both the 125th and the threshold. -/
theorem separated_apply (x0 : FVec Ideal S8x84x128x128 .f32) (h : fn (F := Ideal) x0 = fun _ => 1#1) (b : Fin 8) :
    ∃ e100 e125 : Fin 1310720, rk (flat (heat8 x0 b)) e100 = 99 ∧ rk (flat (heat8 x0 b)) e125 = 124 ∧
      (flat (heat8 x0 b) e125 ≤ thr ∨ 1 / 2 ^ 34 ≤ flat (heat8 x0 b) e100 - flat (heat8 x0 b) e125) ∧
      ∀ r, cnt (fun r l => max (flat (heat8 x0 b) e125) thr < rows (heat8 x0 b) r l) r ≤ 4 := by
  classical
  have key : ∀ c y, fn (F := Ideal) x0 (ix3 b c y) = 1#1 := fun c y => congrFun h _
  unfold fn at key
  dsimp only at key
  have hk := fun c y l => keep_apply (heat8 x0 b) b _ (logistic_apply x0 b) _ reduceWindows_S8x80x128x128_S8x80x128x128_w1s1p0_0_w1s1p0_0_w3s1p1_1_w3s1p1_1 h_S_ ninf c y l
  generalize mulf (F := Ideal) (s := S8x80x128x128) (φ := .f32) _ _ = w at hk key
  obtain ⟨e100, h100, hv100, -⟩ := RefOps.topK_apply _ sliceFits_S8x1310720_S8x125 b _ (flat_apply _ w b hk) 99
  obtain ⟨e125, h125, hv125, -⟩ := RefOps.topK_apply _ sliceFits_S8x1310720_S8x125 b _ (flat_apply _ w b hk) 124
  have key' := fun c y => (part_iff _ _ _ _ b c y (tenth b)).mp (key c y)
  simp only [nth99, nth124] at key'
  rw [hv100, hv125] at key'
  refine ⟨e100, e125, h100, h125, ?_, fun r => ?_⟩
  · have := (key' 0 0).1
    rw [← EReal.coe_sub, EReal.coe_le_coe_iff, EReal.coe_le_coe_iff] at this
    exact this
  · have := (key' ⟨r.val / 128, by omega⟩ ⟨r.val % 128, by omega⟩).2
    simp only [hk, max_lt_iff, EReal.coe_lt_coe_iff] at this
    rw [sum_ind, EReal.coe_le_coe_iff] at this
    unfold cnt rows
    simp only [max_lt_iff]
    convert (by exact_mod_cast this : _ ≤ 4) using 2

end Cert.Proof.PreRead
end
-- ==== Proof.Value.lean ====
module

public import proofs.«01_k».proof.Defs
public import proofs.«01_k».proof.Proof.FinalArray
public import proofs.«01_k».proof.Proof.IdealCounter
public import proofs.«01_k».proof.Proof.Link
public import proofs.«01_k».proof.Proof.PreRead
public import proofs.«01_k».proof.Proof.RefRead
public import proofs.«01_k».proof.Proof.PreFacts
public import proofs.«01_k».proof.Proof.RefRun

@[expose] public section

set_option maxRecDepth 16384

noncomputable section

namespace Cert.Proof.Value

open Idealize.ShloMosaic Idealize.SL.Sem
open Cert.Proof.Rank Cert.Proof.Scores Cert.Proof.Slots Cert.Proof.RefValue Cert.Proof.KI
open Cert.ReferenceIdeal.Read
open Cert.KernelIdeal Cert.KernelIdeal.Gen

/-- The result at an image, a rank and a field is the image's block there. -/
theorem result_read {F : FTy → Type} [FloatOps F] (A : Vec F S8x84x128x128 .f32) (b : Fin 8) (k : Fin 100) (f : Fin 6) :
    result A (ix3 b k f) = images A (ix3 b f ⟨k.val, by omega⟩) := by
  unfold result
  generalize images A = G
  pointwise

/-- So it is what the body computes of the image, at that field and rank. -/
theorem result_apply {F : FTy → Type} [FloatOps F] (A : Vec F S8x84x128x128 .f32) (b : Fin 8) (k : Fin 100) (f : Fin 6) :
    result A (ix3 b k f) = outBlk (slab A b) (ix3 0 f ⟨k.val, by omega⟩) :=
  (result_read A b k f).trans (images_at A b _ _ rfl rfl rfl).symm

/-- On separated scores the kernel's result is the reference's. -/
theorem result_eq [Cert.Pre_separated.Facts] (A : FVec Ideal S8x84x128x128 .f32) (h : Cert.Pre_separated.fn (F := Ideal) A = fun _ => 1#1) :
    result (F := Ideal) A = val_main_v54 (F := Ideal) A := by
  have key : ∀ (b : Fin 8) (k : Fin 100) (f : Fin 6), result (F := Ideal) A (ix3 b k f) = val_main_v54 (F := Ideal) A (ix3 b k f) := by
    intro b k f
    obtain ⟨e100, e125, h100, h125, hgap, hcrowd⟩ := PreRead.separated_apply A h b
    obtain ⟨e, he, hv⟩ := RefValue.ref_apply A b k
    rw [hv f, result_apply]
    exact Link.block_apply (slab A b) e100 e125 h100 h125 hgap hcrowd ⟨k.val, by omega⟩ k.isLt e he f
  funext i
  have hi : i = ix3 (i 0) (i 1) (i 2) := by
    funext a
    match a with
    | ⟨0, _⟩ => rfl
    | ⟨1, _⟩ => rfl
    | ⟨2, _⟩ => rfl
  rw [hi]
  exact key _ _ _

end Cert.Proof.Value

namespace Cert.Proof

open Idealize.ShloMosaic Idealize.SL.Sem

/-- From memories that agree on a separated argument both programs run, end with equal results, and leave the argument unchanged. -/
theorem value : Cert.algebraic_KernelIdeal_ReferenceIdeal_pre_separated (hKernelIdeal := Cert.KernelIdeal.Gen.facts)
    (hReferenceIdeal := Cert.ReferenceIdeal.Gen.facts) (hPre_separated := Cert.Proof.Pre.facts) := by
  intro m g m' g' hpre hagree
  refine ⟨fun c => KI.result (m ((c.tc : Thread _ _).loc Cert.KernelIdeal.main_arg0)), KI.run_result m g KI.stops, ?_⟩
  refine (θ_run Cert.ReferenceIdeal.defs _ _).mono (fun r h c => ⟨?_, (h c).2⟩) (Cert.ReferenceIdeal.Value.run (F := Ideal) m' g')
  refine ((h c).1.trans (Cert.ReferenceIdeal.Read.val_main_v54_eq m' c)).trans ?_
  rw [hagree c]
  exact (Value.result_eq _ (hpre c)).symm

end Cert.Proof

end
-- ==== Proof.lean ====
/- The proof of the claims: the three runs, what they leave unchanged, and that on separated scores
   the kernel's result is the reference's. -/
module

public import proofs.«01_k».proof.Defs
public import proofs.«01_k».proof.Proof.Frames
public import proofs.«01_k».proof.Proof.Value

@[expose] public section

namespace Cert.Proof

open Idealize.ShloMosaic Idealize.SL.Sem

/-- Everything claimed. -/
theorem claim : Cert.Claim := ⟨Cert.Kernel.Gen.facts, Cert.KernelIdeal.Gen.facts, Cert.ReferenceIdeal.Gen.facts, Pre.facts,
  frame_word, frame_ideal, fun m ρ _ => frame_ideal m ρ trivial, frame_ref, fun m ρ _ => frame_ref m ρ trivial, trivial, value⟩

end Cert.Proof

end
